-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![16384, 2]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S_ : Shape := ⟨0, ![]⟩

class Facts : Prop where
  bitsLt_bf16_f32 : FTy.bits .bf16 < FTy.bits .f32
  bcast_S_S1024x512 : S_.BroadcastsInDim S1024x512 (![] : Fin 0 → Fin S1024x512.rank)
  bcast_S_S512x64 : S_.BroadcastsInDim S512x64 (![] : Fin 0 → Fin S512x64.rank)
  bcast_S_S1024x2 : S_.BroadcastsInDim S1024x2 (![] : Fin 0 → Fin S1024x2.rank)

variable [Facts]

def fn {F : FTy → Type} [FloatOps F] (main_arg0 : FVec F S1024x512 .bf16) (main_arg1 : FVec F S512x64 .bf16) (main_arg2 : IVec S1024x2 32) (main_arg3 : FVec F S4x512x1024 .bf16) : IVec S1024x512 1 × IVec S512x64 1 × IVec S1024x2 1 :=
  let main_v0 : FVec F S1024x512 .f32 := (extf .f32 · bitsLt_bf16_f32) main_arg0
  let main_v1 : FVec F S1024x512 .f32 := Host.absf main_v0
  let main_cst : FVec F S_ .f32 := constant S_ .f32 0x7F800000#32
  let main_v2 : FVec F S1024x512 .f32 := broadcastInDim S1024x512 ![] bcast_S_S1024x512 main_cst
  let main_v3 : IVec S1024x512 1 := cmpf .olt main_v1 main_v2
  let main_v4 : FVec F S512x64 .f32 := (extf .f32 · bitsLt_bf16_f32) main_arg1
  let main_v5 : FVec F S512x64 .f32 := Host.absf main_v4
  let main_cst_0 : FVec F S_ .f32 := constant S_ .f32 0x7F800000#32
  let main_v6 : FVec F S512x64 .f32 := broadcastInDim S512x64 ![] bcast_S_S512x64 main_cst_0
  let main_v7 : IVec S512x64 1 := cmpf .olt main_v5 main_v6
  let main_c : IVec S_ 32 := constantI S_ 32 0#32
  let main_v8 : IVec S1024x2 32 := broadcastInDim S1024x2 ![] bcast_S_S1024x2 main_c
  let main_v9 : IVec S1024x2 1 := cmpi .sge main_arg2 main_v8
  let main_c_1 : IVec S_ 32 := constantI S_ 32 64#32
  let main_v10 : IVec S1024x2 32 := broadcastInDim S1024x2 ![] bcast_S_S1024x2 main_c_1
  let main_v11 : IVec S1024x2 1 := cmpi .slt main_arg2 main_v10
  let main_v12 : IVec S1024x2 1 := andi main_v9 main_v11
  (main_v3, main_v7, main_v12)
-- ==== Pre_routed_ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S512x64 : S_.BroadcastsInDim S512x64 (![] : Fin 0 → Fin S512x64.rank)
  bcast_S_S16384x2 : S_.BroadcastsInDim S16384x2 (![] : Fin 0 → Fin S16384x2.rank)

variable [Facts]

def fn {F : FTy → Type} [FloatOps F] (main_arg0 : FVec F S16384x512 .bf16) (main_arg1 : FVec F S512x64 .bf16) (main_arg2 : IVec S16384x2 32) (main_arg3 : FVec F S64x512x1024 .bf16) : IVec S16384x512 1 × IVec S512x64 1 × IVec S16384x2 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S512x64 .f32 := (extf .f32 · bitsLt_bf16_f32) main_arg1
  let main_v5 : FVec F S512x64 .f32 := Host.absf main_v4
  let main_cst_0 : FVec F S_ .f32 := constant S_ .f32 0x7F800000#32
  let main_v6 : FVec F S512x64 .f32 := broadcastInDim S512x64 ![] bcast_S_S512x64 main_cst_0
  let main_v7 : IVec S512x64 1 := cmpf .olt main_v5 main_v6
  let main_c : IVec S_ 32 := constantI S_ 32 0#32
  let main_v8 : IVec S16384x2 32 := broadcastInDim S16384x2 ![] bcast_S_S16384x2 main_c
  let main_v9 : IVec S16384x2 1 := cmpi .sge main_arg2 main_v8
  let main_c_1 : IVec S_ 32 := constantI S_ 32 64#32
  let main_v10 : IVec S16384x2 32 := broadcastInDim S16384x2 ![] bcast_S_S16384x2 main_c_1
  let main_v11 : IVec S16384x2 1 := cmpi .slt main_arg2 main_v10
  let main_v12 : IVec S16384x2 1 := andi main_v9 main_v11
  (main_v3, main_v7, main_v12)
-- ==== Kernel.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S1024x1024 : Shape := ⟨2, ![1024, 1024]⟩
abbrev S16x512x576 : Shape := ⟨3, ![16, 512, 576]⟩
abbrev S2048x1024 : Shape := ⟨2, ![2048, 1024]⟩
abbrev S2x512x1024 : Shape := ⟨3, ![2, 512, 1024]⟩
abbrev S15 : Shape := ⟨1, ![15]⟩
abbrev S2 : Shape := ⟨1, ![2]⟩
abbrev S_ : Shape := ⟨0, ![]⟩
abbrev S1024x64 : Shape := ⟨2, ![1024, 64]⟩
abbrev S1024 : Shape := ⟨1, ![1024]⟩
abbrev S1024x1 : Shape := ⟨2, ![1024, 1]⟩
abbrev S1024x576 : Shape := ⟨2, ![1024, 576]⟩
abbrev S512x576 : Shape := ⟨2, ![512, 576]⟩
abbrev S1x512x576 : Shape := ⟨3, ![1, 512, 576]⟩
abbrev S1 : Shape := ⟨1, ![1]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩
abbrev S512x1024 : Shape := ⟨2, ![512, 1024]⟩
abbrev S1x512x1024 : Shape := ⟨3, ![1, 512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x2, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S512x64, .bf16⟩
  | .local _ .vmem, ⟨2, _⟩ => ⟨S1024x2, .i32⟩
  | .local _ .vmem, ⟨3, _⟩ => ⟨S4x512x1024, .bf16⟩
  | .local _ .vmem, ⟨4, _⟩ => ⟨S1024x1024, .f32⟩
  | .local _ .vmem, ⟨5, _⟩ => ⟨S16x512x576, .bf16⟩
  | .local _ .vmem, ⟨6, _⟩ => ⟨S16x512x576, .bf16⟩
  | .local _ .vmem, ⟨7, _⟩ => ⟨S2048x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S2x512x1024, .bf16⟩
  | .local _ .vmem, ⟨11, _⟩ => ⟨S2x512x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 5 125 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_30 : BitVec 32 := 1#32
  let v66 : BitVec 32 := Scalar.muli v7 c1_i32_30
  let v67 : BitVec 32 := Scalar.addi c0_i32_31 v66
  v67.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_40 : BitVec 32 := 1#32
  let v76 : BitVec 32 := Scalar.muli v5 c1_i32_40
  let v77 : BitVec 32 := Scalar.addi c0_i32_41 v76
  v77.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_93 : BitVec 32 := 1#32
  let v120 : BitVec 32 := Scalar.muli v7 c1_i32_93
  let v121 : BitVec 32 := Scalar.addi c0_i32_94 v120
  v121.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_103 : BitVec 32 := 1#32
  let v130 : BitVec 32 := Scalar.muli v5 c1_i32_103
  let v131 : BitVec 32 := Scalar.addi c0_i32_104 v130
  v131.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_153 : BitVec 32 := 1#32
  let v260 : BitVec 32 := Scalar.muli v7 c1_i32_153
  let v261 : BitVec 32 := Scalar.addi c0_i32_154 v260
  v261.toNat
def k0_dev8 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_163 : BitVec 32 := 1#32
  let v270 : BitVec 32 := Scalar.muli v5 c1_i32_163
  let v271 : BitVec 32 := Scalar.addi c0_i32_164 v270
  v271.toNat
def k0_dev9 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_228 : BitVec 32 := 1#32
  let v408 : BitVec 32 := Scalar.muli v7 c1_i32_228
  let v409 : BitVec 32 := Scalar.addi c0_i32_229 v408
  v409.toNat
def k0_dev10 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_238 : BitVec 32 := 1#32
  let v418 : BitVec 32 := Scalar.muli v5 c1_i32_238
  let v419 : BitVec 32 := Scalar.addi c0_i32_239 v418
  v419.toNat
def k0_dev11 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_272 : BitVec 32 := 1#32
  let v454 : BitVec 32 := Scalar.muli v5 c1_i32_272
  let v455 : BitVec 32 := Scalar.addi c0_i32_273 v454
  v455.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_276 : BitVec 32 := 1#32
  let v458 : BitVec 32 := Scalar.muli v7 c1_i32_276
  let v459 : BitVec 32 := Scalar.addi c0_i32_277 v458
  v459.toNat
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_288 : BitVec 32 := 1#32
  let v468 : BitVec 32 := Scalar.muli v7 c1_i32_288
  let v469 : BitVec 32 := Scalar.addi c0_i32_289 v468
  v469.toNat
def k0_dev14 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_298 : BitVec 32 := 1#32
  let v478 : BitVec 32 := Scalar.muli v5 c1_i32_298
  let v479 : BitVec 32 := Scalar.addi c0_i32_299 v478
  v479.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_381 : BitVec 32 := 1#32
  let v628 : BitVec 32 := Scalar.muli v7 c1_i32_381
  let v629 : BitVec 32 := Scalar.addi c0_i32_382 v628
  v629.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_391 : BitVec 32 := 1#32
  let v638 : BitVec 32 := Scalar.muli v5 c1_i32_391
  let v639 : BitVec 32 := Scalar.addi c0_i32_392 v638
  v639.toNat
def k0_dev17 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_425 : BitVec 32 := 1#32
  let v674 : BitVec 32 := Scalar.muli v5 c1_i32_425
  let v675 : BitVec 32 := Scalar.addi c0_i32_426 v674
  v675.toNat
def k0_dev18 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_429 : BitVec 32 := 1#32
  let v678 : BitVec 32 := Scalar.muli v7 c1_i32_429
  let v679 : BitVec 32 := Scalar.addi c0_i32_430 v678
  v679.toNat
def k0_dev19 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_465 : BitVec 32 := 1#32
  let v704 : BitVec 32 := Scalar.muli v7 c1_i32_465
  let v705 : BitVec 32 := Scalar.addi c0_i32_466 v704
  v705.toNat
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_475 : BitVec 32 := 1#32
  let v714 : BitVec 32 := Scalar.muli v5 c1_i32_475
  let v715 : BitVec 32 := Scalar.addi c0_i32_476 v714
  v715.toNat
def k0_dev21 (d0 : Dev nD) : Nat :=
  let c0_i32_558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_557 : BitVec 32 := 1#32
  let v864 : BitVec 32 := Scalar.muli v7 c1_i32_557
  let v865 : BitVec 32 := Scalar.addi c0_i32_558 v864
  v865.toNat
def k0_dev22 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_567 : BitVec 32 := 1#32
  let v874 : BitVec 32 := Scalar.muli v5 c1_i32_567
  let v875 : BitVec 32 := Scalar.addi c0_i32_568 v874
  v875.toNat
def k0_dev23 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_601 : BitVec 32 := 1#32
  let v910 : BitVec 32 := Scalar.muli v5 c1_i32_601
  let v911 : BitVec 32 := Scalar.addi c0_i32_602 v910
  v911.toNat
def k0_dev24 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_605 : BitVec 32 := 1#32
  let v914 : BitVec 32 := Scalar.muli v7 c1_i32_605
  let v915 : BitVec 32 := Scalar.addi c0_i32_606 v914
  v915.toNat
def k0_dev25 (d0 : Dev nD) : Nat :=
  let c0_i32_642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_641 : BitVec 32 := 1#32
  let v940 : BitVec 32 := Scalar.muli v7 c1_i32_641
  let v941 : BitVec 32 := Scalar.addi c0_i32_642 v940
  v941.toNat
def k0_dev26 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_651 : BitVec 32 := 1#32
  let v950 : BitVec 32 := Scalar.muli v5 c1_i32_651
  let v951 : BitVec 32 := Scalar.addi c0_i32_652 v950
  v951.toNat
def k0_dev27 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_733 : BitVec 32 := 1#32
  let v1100 : BitVec 32 := Scalar.muli v7 c1_i32_733
  let v1101 : BitVec 32 := Scalar.addi c0_i32_734 v1100
  v1101.toNat
def k0_dev28 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_743 : BitVec 32 := 1#32
  let v1110 : BitVec 32 := Scalar.muli v5 c1_i32_743
  let v1111 : BitVec 32 := Scalar.addi c0_i32_744 v1110
  v1111.toNat
def k0_dev29 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_777 : BitVec 32 := 1#32
  let v1146 : BitVec 32 := Scalar.muli v5 c1_i32_777
  let v1147 : BitVec 32 := Scalar.addi c0_i32_778 v1146
  v1147.toNat
def k0_dev30 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_781 : BitVec 32 := 1#32
  let v1150 : BitVec 32 := Scalar.muli v7 c1_i32_781
  let v1151 : BitVec 32 := Scalar.addi c0_i32_782 v1150
  v1151.toNat
def k0_dev31 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_817 : BitVec 32 := 1#32
  let v1176 : BitVec 32 := Scalar.muli v7 c1_i32_817
  let v1177 : BitVec 32 := Scalar.addi c0_i32_818 v1176
  v1177.toNat
def k0_dev32 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_827 : BitVec 32 := 1#32
  let v1186 : BitVec 32 := Scalar.muli v5 c1_i32_827
  let v1187 : BitVec 32 := Scalar.addi c0_i32_828 v1186
  v1187.toNat
def k0_dev33 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_909 : BitVec 32 := 1#32
  let v1336 : BitVec 32 := Scalar.muli v7 c1_i32_909
  let v1337 : BitVec 32 := Scalar.addi c0_i32_910 v1336
  v1337.toNat
def k0_dev34 (d0 : Dev nD) : Nat :=
  let c0_i32_920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_919 : BitVec 32 := 1#32
  let v1346 : BitVec 32 := Scalar.muli v5 c1_i32_919
  let v1347 : BitVec 32 := Scalar.addi c0_i32_920 v1346
  v1347.toNat
def k0_dev35 (d0 : Dev nD) : Nat :=
  let c0_i32_954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_953 : BitVec 32 := 1#32
  let v1382 : BitVec 32 := Scalar.muli v5 c1_i32_953
  let v1383 : BitVec 32 := Scalar.addi c0_i32_954 v1382
  v1383.toNat
def k0_dev36 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_957 : BitVec 32 := 1#32
  let v1386 : BitVec 32 := Scalar.muli v7 c1_i32_957
  let v1387 : BitVec 32 := Scalar.addi c0_i32_958 v1386
  v1387.toNat
def k0_dev37 (d0 : Dev nD) : Nat :=
  let c0_i32_994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_993 : BitVec 32 := 1#32
  let v1412 : BitVec 32 := Scalar.muli v7 c1_i32_993
  let v1413 : BitVec 32 := Scalar.addi c0_i32_994 v1412
  v1413.toNat
def k0_dev38 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1003 : BitVec 32 := 1#32
  let v1422 : BitVec 32 := Scalar.muli v5 c1_i32_1003
  let v1423 : BitVec 32 := Scalar.addi c0_i32_1004 v1422
  v1423.toNat
def k0_dev39 (d0 : Dev nD) : Nat :=
  let c0_i32_1086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1085 : BitVec 32 := 1#32
  let v1572 : BitVec 32 := Scalar.muli v7 c1_i32_1085
  let v1573 : BitVec 32 := Scalar.addi c0_i32_1086 v1572
  v1573.toNat
def k0_dev40 (d0 : Dev nD) : Nat :=
  let c0_i32_1096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1095 : BitVec 32 := 1#32
  let v1582 : BitVec 32 := Scalar.muli v5 c1_i32_1095
  let v1583 : BitVec 32 := Scalar.addi c0_i32_1096 v1582
  v1583.toNat
def k0_dev41 (d0 : Dev nD) : Nat :=
  let c0_i32_1130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1129 : BitVec 32 := 1#32
  let v1618 : BitVec 32 := Scalar.muli v5 c1_i32_1129
  let v1619 : BitVec 32 := Scalar.addi c0_i32_1130 v1618
  v1619.toNat
def k0_dev42 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1133 : BitVec 32 := 1#32
  let v1622 : BitVec 32 := Scalar.muli v7 c1_i32_1133
  let v1623 : BitVec 32 := Scalar.addi c0_i32_1134 v1622
  v1623.toNat
def k0_dev43 (d0 : Dev nD) : Nat :=
  let c0_i32_1170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1169 : BitVec 32 := 1#32
  let v1648 : BitVec 32 := Scalar.muli v7 c1_i32_1169
  let v1649 : BitVec 32 := Scalar.addi c0_i32_1170 v1648
  v1649.toNat
def k0_dev44 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1179 : BitVec 32 := 1#32
  let v1658 : BitVec 32 := Scalar.muli v5 c1_i32_1179
  let v1659 : BitVec 32 := Scalar.addi c0_i32_1180 v1658
  v1659.toNat
def k0_dev45 (d0 : Dev nD) : Nat :=
  let c0_i32_1262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1261 : BitVec 32 := 1#32
  let v1808 : BitVec 32 := Scalar.muli v7 c1_i32_1261
  let v1809 : BitVec 32 := Scalar.addi c0_i32_1262 v1808
  v1809.toNat
def k0_dev46 (d0 : Dev nD) : Nat :=
  let c0_i32_1272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1271 : BitVec 32 := 1#32
  let v1818 : BitVec 32 := Scalar.muli v5 c1_i32_1271
  let v1819 : BitVec 32 := Scalar.addi c0_i32_1272 v1818
  v1819.toNat
def k0_dev47 (d0 : Dev nD) : Nat :=
  let c0_i32_1306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1305 : BitVec 32 := 1#32
  let v1854 : BitVec 32 := Scalar.muli v5 c1_i32_1305
  let v1855 : BitVec 32 := Scalar.addi c0_i32_1306 v1854
  v1855.toNat
def k0_dev48 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1309 : BitVec 32 := 1#32
  let v1858 : BitVec 32 := Scalar.muli v7 c1_i32_1309
  let v1859 : BitVec 32 := Scalar.addi c0_i32_1310 v1858
  v1859.toNat
def k0_dev49 (d0 : Dev nD) : Nat :=
  let c0_i32_1346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1345 : BitVec 32 := 1#32
  let v1884 : BitVec 32 := Scalar.muli v7 c1_i32_1345
  let v1885 : BitVec 32 := Scalar.addi c0_i32_1346 v1884
  v1885.toNat
def k0_dev50 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1355 : BitVec 32 := 1#32
  let v1894 : BitVec 32 := Scalar.muli v5 c1_i32_1355
  let v1895 : BitVec 32 := Scalar.addi c0_i32_1356 v1894
  v1895.toNat
def k0_dev51 (d0 : Dev nD) : Nat :=
  let c0_i32_1438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1437 : BitVec 32 := 1#32
  let v2044 : BitVec 32 := Scalar.muli v7 c1_i32_1437
  let v2045 : BitVec 32 := Scalar.addi c0_i32_1438 v2044
  v2045.toNat
def k0_dev52 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1447 : BitVec 32 := 1#32
  let v2054 : BitVec 32 := Scalar.muli v5 c1_i32_1447
  let v2055 : BitVec 32 := Scalar.addi c0_i32_1448 v2054
  v2055.toNat
def k0_dev53 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1481 : BitVec 32 := 1#32
  let v2090 : BitVec 32 := Scalar.muli v5 c1_i32_1481
  let v2091 : BitVec 32 := Scalar.addi c0_i32_1482 v2090
  v2091.toNat
def k0_dev54 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1485 : BitVec 32 := 1#32
  let v2094 : BitVec 32 := Scalar.muli v7 c1_i32_1485
  let v2095 : BitVec 32 := Scalar.addi c0_i32_1486 v2094
  v2095.toNat
def k0_dev55 (d0 : Dev nD) : Nat :=
  let c0_i32_1522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1521 : BitVec 32 := 1#32
  let v2120 : BitVec 32 := Scalar.muli v7 c1_i32_1521
  let v2121 : BitVec 32 := Scalar.addi c0_i32_1522 v2120
  v2121.toNat
def k0_dev56 (d0 : Dev nD) : Nat :=
  let c0_i32_1532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1531 : BitVec 32 := 1#32
  let v2130 : BitVec 32 := Scalar.muli v5 c1_i32_1531
  let v2131 : BitVec 32 := Scalar.addi c0_i32_1532 v2130
  v2131.toNat
def k0_dev57 (d0 : Dev nD) : Nat :=
  let c0_i32_1614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1613 : BitVec 32 := 1#32
  let v2280 : BitVec 32 := Scalar.muli v7 c1_i32_1613
  let v2281 : BitVec 32 := Scalar.addi c0_i32_1614 v2280
  v2281.toNat
def k0_dev58 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1623 : BitVec 32 := 1#32
  let v2290 : BitVec 32 := Scalar.muli v5 c1_i32_1623
  let v2291 : BitVec 32 := Scalar.addi c0_i32_1624 v2290
  v2291.toNat
def k0_dev59 (d0 : Dev nD) : Nat :=
  let c0_i32_1658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1657 : BitVec 32 := 1#32
  let v2326 : BitVec 32 := Scalar.muli v5 c1_i32_1657
  let v2327 : BitVec 32 := Scalar.addi c0_i32_1658 v2326
  v2327.toNat
def k0_dev60 (d0 : Dev nD) : Nat :=
  let c0_i32_1662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1661 : BitVec 32 := 1#32
  let v2330 : BitVec 32 := Scalar.muli v7 c1_i32_1661
  let v2331 : BitVec 32 := Scalar.addi c0_i32_1662 v2330
  v2331.toNat
def k0_dev61 (d0 : Dev nD) : Nat :=
  let c0_i32_1698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1697 : BitVec 32 := 1#32
  let v2356 : BitVec 32 := Scalar.muli v7 c1_i32_1697
  let v2357 : BitVec 32 := Scalar.addi c0_i32_1698 v2356
  v2357.toNat
def k0_dev62 (d0 : Dev nD) : Nat :=
  let c0_i32_1708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1707 : BitVec 32 := 1#32
  let v2366 : BitVec 32 := Scalar.muli v5 c1_i32_1707
  let v2367 : BitVec 32 := Scalar.addi c0_i32_1708 v2366
  v2367.toNat
def k0_dev63 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1789 : BitVec 32 := 1#32
  let v2516 : BitVec 32 := Scalar.muli v7 c1_i32_1789
  let v2517 : BitVec 32 := Scalar.addi c0_i32_1790 v2516
  v2517.toNat
def k0_dev64 (d0 : Dev nD) : Nat :=
  let c0_i32_1800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1799 : BitVec 32 := 1#32
  let v2526 : BitVec 32 := Scalar.muli v5 c1_i32_1799
  let v2527 : BitVec 32 := Scalar.addi c0_i32_1800 v2526
  v2527.toNat
def k0_dev65 (d0 : Dev nD) : Nat :=
  let c0_i32_1834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1833 : BitVec 32 := 1#32
  let v2562 : BitVec 32 := Scalar.muli v5 c1_i32_1833
  let v2563 : BitVec 32 := Scalar.addi c0_i32_1834 v2562
  v2563.toNat
def k0_dev66 (d0 : Dev nD) : Nat :=
  let c0_i32_1838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1837 : BitVec 32 := 1#32
  let v2566 : BitVec 32 := Scalar.muli v7 c1_i32_1837
  let v2567 : BitVec 32 := Scalar.addi c0_i32_1838 v2566
  v2567.toNat
def k0_dev67 (d0 : Dev nD) : Nat :=
  let c0_i32_1874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1873 : BitVec 32 := 1#32
  let v2592 : BitVec 32 := Scalar.muli v7 c1_i32_1873
  let v2593 : BitVec 32 := Scalar.addi c0_i32_1874 v2592
  v2593.toNat
def k0_dev68 (d0 : Dev nD) : Nat :=
  let c0_i32_1884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1883 : BitVec 32 := 1#32
  let v2602 : BitVec 32 := Scalar.muli v5 c1_i32_1883
  let v2603 : BitVec 32 := Scalar.addi c0_i32_1884 v2602
  v2603.toNat
def k0_dev69 (d0 : Dev nD) : Nat :=
  let c0_i32_1966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1965 : BitVec 32 := 1#32
  let v2752 : BitVec 32 := Scalar.muli v7 c1_i32_1965
  let v2753 : BitVec 32 := Scalar.addi c0_i32_1966 v2752
  v2753.toNat
def k0_dev70 (d0 : Dev nD) : Nat :=
  let c0_i32_1976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1975 : BitVec 32 := 1#32
  let v2762 : BitVec 32 := Scalar.muli v5 c1_i32_1975
  let v2763 : BitVec 32 := Scalar.addi c0_i32_1976 v2762
  v2763.toNat
def k0_dev71 (d0 : Dev nD) : Nat :=
  let c0_i32_2010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2009 : BitVec 32 := 1#32
  let v2798 : BitVec 32 := Scalar.muli v5 c1_i32_2009
  let v2799 : BitVec 32 := Scalar.addi c0_i32_2010 v2798
  v2799.toNat
def k0_dev72 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2013 : BitVec 32 := 1#32
  let v2802 : BitVec 32 := Scalar.muli v7 c1_i32_2013
  let v2803 : BitVec 32 := Scalar.addi c0_i32_2014 v2802
  v2803.toNat
def k0_dev73 (d0 : Dev nD) : Nat :=
  let c0_i32_2050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2049 : BitVec 32 := 1#32
  let v2828 : BitVec 32 := Scalar.muli v7 c1_i32_2049
  let v2829 : BitVec 32 := Scalar.addi c0_i32_2050 v2828
  v2829.toNat
def k0_dev74 (d0 : Dev nD) : Nat :=
  let c0_i32_2060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2059 : BitVec 32 := 1#32
  let v2838 : BitVec 32 := Scalar.muli v5 c1_i32_2059
  let v2839 : BitVec 32 := Scalar.addi c0_i32_2060 v2838
  v2839.toNat
def k0_dev75 (d0 : Dev nD) : Nat :=
  let c0_i32_2142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2141 : BitVec 32 := 1#32
  let v2988 : BitVec 32 := Scalar.muli v7 c1_i32_2141
  let v2989 : BitVec 32 := Scalar.addi c0_i32_2142 v2988
  v2989.toNat
def k0_dev76 (d0 : Dev nD) : Nat :=
  let c0_i32_2152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2151 : BitVec 32 := 1#32
  let v2998 : BitVec 32 := Scalar.muli v5 c1_i32_2151
  let v2999 : BitVec 32 := Scalar.addi c0_i32_2152 v2998
  v2999.toNat
def k0_dev77 (d0 : Dev nD) : Nat :=
  let c0_i32_2186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2185 : BitVec 32 := 1#32
  let v3034 : BitVec 32 := Scalar.muli v5 c1_i32_2185
  let v3035 : BitVec 32 := Scalar.addi c0_i32_2186 v3034
  v3035.toNat
def k0_dev78 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2189 : BitVec 32 := 1#32
  let v3038 : BitVec 32 := Scalar.muli v7 c1_i32_2189
  let v3039 : BitVec 32 := Scalar.addi c0_i32_2190 v3038
  v3039.toNat
def k0_dev79 (d0 : Dev nD) : Nat :=
  let c0_i32_2226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2225 : BitVec 32 := 1#32
  let v3064 : BitVec 32 := Scalar.muli v7 c1_i32_2225
  let v3065 : BitVec 32 := Scalar.addi c0_i32_2226 v3064
  v3065.toNat
def k0_dev80 (d0 : Dev nD) : Nat :=
  let c0_i32_2236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2235 : BitVec 32 := 1#32
  let v3074 : BitVec 32 := Scalar.muli v5 c1_i32_2235
  let v3075 : BitVec 32 := Scalar.addi c0_i32_2236 v3074
  v3075.toNat
def k0_dev81 (d0 : Dev nD) : Nat :=
  let c0_i32_2318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2317 : BitVec 32 := 1#32
  let v3224 : BitVec 32 := Scalar.muli v7 c1_i32_2317
  let v3225 : BitVec 32 := Scalar.addi c0_i32_2318 v3224
  v3225.toNat
def k0_dev82 (d0 : Dev nD) : Nat :=
  let c0_i32_2328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2327 : BitVec 32 := 1#32
  let v3234 : BitVec 32 := Scalar.muli v5 c1_i32_2327
  let v3235 : BitVec 32 := Scalar.addi c0_i32_2328 v3234
  v3235.toNat
def k0_dev83 (d0 : Dev nD) : Nat :=
  let c0_i32_2362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2361 : BitVec 32 := 1#32
  let v3270 : BitVec 32 := Scalar.muli v5 c1_i32_2361
  let v3271 : BitVec 32 := Scalar.addi c0_i32_2362 v3270
  v3271.toNat
def k0_dev84 (d0 : Dev nD) : Nat :=
  let c0_i32_2366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2365 : BitVec 32 := 1#32
  let v3274 : BitVec 32 := Scalar.muli v7 c1_i32_2365
  let v3275 : BitVec 32 := Scalar.addi c0_i32_2366 v3274
  v3275.toNat
def k0_dev85 (d0 : Dev nD) : Nat :=
  let c0_i32_2402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2401 : BitVec 32 := 1#32
  let v3300 : BitVec 32 := Scalar.muli v7 c1_i32_2401
  let v3301 : BitVec 32 := Scalar.addi c0_i32_2402 v3300
  v3301.toNat
def k0_dev86 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2411 : BitVec 32 := 1#32
  let v3310 : BitVec 32 := Scalar.muli v5 c1_i32_2411
  let v3311 : BitVec 32 := Scalar.addi c0_i32_2412 v3310
  v3311.toNat
def k0_dev87 (d0 : Dev nD) : Nat :=
  let c0_i32_2533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2532 : BitVec 32 := 1#32
  let v3496 : BitVec 32 := Scalar.muli v7 c1_i32_2532
  let v3497 : BitVec 32 := Scalar.addi c0_i32_2533 v3496
  v3497.toNat
def k0_dev88 (d0 : Dev nD) : Nat :=
  let c0_i32_2543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2542 : BitVec 32 := 1#32
  let v3506 : BitVec 32 := Scalar.muli v5 c1_i32_2542
  let v3507 : BitVec 32 := Scalar.addi c0_i32_2543 v3506
  v3507.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x2 : Shape := ⟨2, ![16384, 2]⟩
abbrev S64x512x1024 : Shape := ⟨3, ![64, 512, 1024]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x512x1024 : Shape := ⟨3, ![16384, 512, 1024]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x64, .bf16⟩
  | .hbm, ⟨2, _⟩ => ⟨S16384x2, .i32⟩
  | .hbm, ⟨3, _⟩ => ⟨S64x512x1024, .bf16⟩
  | .hbm, ⟨4, _⟩ => ⟨S16384x512, .f32⟩
  | .hbm, ⟨5, _⟩ => ⟨S512x64, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | .hbm, ⟨18, _⟩ => ⟨S64x512x1024, .f32⟩
  | .hbm, ⟨19, _⟩ => ⟨S16384x1, .i32⟩
  | .hbm, ⟨20, _⟩ => ⟨S16384, .i32⟩
  | .hbm, ⟨21, _⟩ => ⟨S16384x1, .i32⟩
  | .hbm, ⟨22, _⟩ => ⟨S16384, .i32⟩
  | .hbm, ⟨23, _⟩ => ⟨S16384x1, .i32⟩
  | .hbm, ⟨24, _⟩ => ⟨S_, .i32⟩
  | .hbm, ⟨25, _⟩ => ⟨S16384x1, .i32⟩
  | .hbm, ⟨26, _⟩ => ⟨S16384x1, .i1⟩
  | .hbm, ⟨27, _⟩ => ⟨S_, .i32⟩
  | .hbm, ⟨28, _⟩ => ⟨S16384x1, .i32⟩
  | .hbm, ⟨29, _⟩ => ⟨S16384x1, .i32⟩
  | .hbm, ⟨30, _⟩ => ⟨S16384x1, .i32⟩
  | .hbm, ⟨31, _⟩ => ⟨S16384x1x1, .i32⟩
  | .hbm, ⟨32, _⟩ => ⟨S1, .i32⟩
  | .hbm, ⟨33, _⟩ => ⟨S_, .i32⟩
  | .hbm, ⟨34, _⟩ => ⟨S16384x1x1, .i32⟩
  | .hbm, ⟨35, _⟩ => ⟨S16384x1x1, .i1⟩
  | .hbm, ⟨36, _⟩ => ⟨S1x1x1, .i32⟩
  | .hbm, ⟨37, _⟩ => ⟨S16384x1x1, .i32⟩
  | .hbm, ⟨38, _⟩ => ⟨S16384x1x1, .i1⟩
  | .hbm, ⟨39, _⟩ => ⟨S16384x1x1, .i1⟩
  | .hbm, ⟨40, _⟩ => ⟨S_, .i1⟩
  | .hbm, ⟨41, _⟩ => ⟨S16384x1, .i1⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .i32⟩
  | .hbm, ⟨47, _⟩ => ⟨S_, .i32⟩
  | .hbm, ⟨48, _⟩ => ⟨S16384x1, .i32⟩
  | .hbm, ⟨49, _⟩ => ⟨S16384x1, .i1⟩
  | .hbm, ⟨50, _⟩ => ⟨S_, .i32⟩
  | .hbm, ⟨51, _⟩ => ⟨S16384x1, .i32⟩
  | .hbm, ⟨52, _⟩ => ⟨S16384x1, .i32⟩
  | .hbm, ⟨53, _⟩ => ⟨S16384x1, .i32⟩
  | .hbm, ⟨54, _⟩ => ⟨S16384x1x1, .i32⟩
  | .hbm, ⟨55, _⟩ => ⟨S1, .i32⟩
  | .hbm, ⟨56, _⟩ => ⟨S_, .i32⟩
  | .hbm, ⟨57, _⟩ => ⟨S16384x1x1, .i32⟩
  | .hbm, ⟨58, _⟩ => ⟨S16384x1x1, .i1⟩
  | .hbm, ⟨59, _⟩ => ⟨S1x1x1, .i32⟩
  | .hbm, ⟨60, _⟩ => ⟨S16384x1x1, .i32⟩
  | .hbm, ⟨61, _⟩ => ⟨S16384x1x1, .i1⟩
  | .hbm, ⟨62, _⟩ => ⟨S16384x1x1, .i1⟩
  | .hbm, ⟨63, _⟩ => ⟨S_, .i1⟩
  | .hbm, ⟨64, _⟩ => ⟨S16384x1, .i1⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S16384x1, .i32⟩
  | .hbm, ⟨78, _⟩ => ⟨S16384x512x1024, .f32⟩
  | .hbm, ⟨79, _⟩ => ⟨S16384x1024, .f32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S16384x512x1024, .f32⟩
  | .hbm, ⟨89, _⟩ => ⟨S16384x1024, .f32⟩
  | .hbm, ⟨90, _⟩ => ⟨S16384x1, .f32⟩
  | .hbm, ⟨91, _⟩ => ⟨S16384x1024, .f32⟩
  | .hbm, ⟨92, _⟩ => ⟨S16384x1024, .f32⟩
  | .hbm, ⟨93, _⟩ => ⟨S16384x1, .f32⟩
  | .hbm, ⟨94, _⟩ => ⟨S16384x1024, .f32⟩
  | .hbm, ⟨95, _⟩ => ⟨S16384x1024, .f32⟩
  | .hbm, ⟨96, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v18 : Ref sig .tc := ⟨.hbm, 45, rfl⟩
abbrev main_v19 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.Text.lean ====
/- The kernel's text in one form for both directions and every hop.

   The printed body is a straight line: 16 hops, each for a right-going and a left-going ring. Here the
   same operations are written once per kind, with the direction and the hop as parameters, and
   `body_text` is the statement that the printed body is their sequence. -/
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic

@[expose] public section

noncomputable section

namespace Cert.Moe

open Cert.KernelIdeal Cert.KernelIdeal.Gen
open Idealize.ShloMosaic
open Idealize.ShloMosaic.TcCoe
open Idealize.SL.Sem

variable {F : FTy → Type} [FloatOps F]

/-! ## Directions

`true` is the ring whose copies go to the right-hand neighbour, `false` the one whose copies go to the left. -/

/-- The device to the right, as the body computes it. -/
abbrev rightOf (c : Dev nD) : Dev nD := ⟨k0_dev3 c, k0_dev3_lt c⟩
/-- The device to the left, as the body computes it. -/
abbrev leftOf (c : Dev nD) : Dev nD := ⟨k0_dev4 c, k0_dev4_lt c⟩

/-- Where a direction's copies go. -/
abbrev fwd : Bool → Dev nD → Dev nD
  | true, c => rightOf c
  | false, c => leftOf c

/-- Where a direction's copies come from. -/
abbrev bwd : Bool → Dev nD → Dev nD
  | true, c => leftOf c
  | false, c => rightOf c

/-! ## Buffers and semaphores -/

/-- The gathered inputs of a direction. -/
abbrev xw : Bool → Memref sig .tc .vmem S16x512x576 .bf16
  | true => Memref.whole cc0_scratch0
  | false => Memref.whole cc0_scratch1

/-- The outgoing partial sums of a direction. -/
abbrev sbuf : Bool → Memref sig .tc .vmem S2x512x1024 .bf16
  | true => Memref.whole cc0_scratch3
  | false => Memref.whole cc0_scratch5

/-- The incoming partial sums of a direction. -/
abbrev rbuf : Bool → Memref sig .tc .vmem S2x512x1024 .bf16
  | true => Memref.whole cc0_scratch4
  | false => Memref.whole cc0_scratch6

/-- The expert weights, reshaped. -/
abbrev ewb : Memref sig .tc .vmem S2048x1024 .bf16 := Memref.whole cc0_scratch2

theorem xw_whole : ∀ b, (xw b).IsWhole
  | true => Memref.isWhole_whole _
  | false => Memref.isWhole_whole _
theorem sbuf_whole : ∀ b, (sbuf b).IsWhole
  | true => Memref.isWhole_whole _
  | false => Memref.isWhole_whole _
theorem rbuf_whole : ∀ b, (rbuf b).IsWhole
  | true => Memref.isWhole_whole _
  | false => Memref.isWhole_whole _

theorem xinb (h : ℕ) : ∀ a, (![h % 16, 0, 0] : Fin 3 → Nat) a + S1x512x576.size a ≤ S16x512x576.size a := by
  have : ∀ h : Fin 16, ∀ a, (![h.val, 0, 0] : Fin 3 → Nat) a + S1x512x576.size a ≤ S16x512x576.size a := by decide
  exact this ⟨h % 16, Nat.mod_lt _ (by decide)⟩

theorem binb (k : ℕ) : ∀ a, (![k % 2, 0, 0] : Fin 3 → Nat) a + S1x512x1024.size a ≤ S2x512x1024.size a := by
  have : ∀ h : Fin 2, ∀ a, (![h.val, 0, 0] : Fin 3 → Nat) a + S1x512x1024.size a ≤ S2x512x1024.size a := by decide
  exact this ⟨k % 2, Nat.mod_lt _ (by decide)⟩

theorem sinb (h : ℕ) : ∀ a, (![h % 15] : Fin 1 → Nat) a + S1.size a ≤ S15.size a := by
  have : ∀ h : Fin 15, ∀ a, (![h.val] : Fin 1 → Nat) a + S1.size a ≤ S15.size a := by decide
  exact this ⟨h % 15, Nat.mod_lt _ (by decide)⟩

theorem cinb (k : ℕ) : ∀ a, (![k % 2] : Fin 1 → Nat) a + S1.size a ≤ S2.size a := by
  have : ∀ h : Fin 2, ∀ a, (![h.val] : Fin 1 → Nat) a + S1.size a ≤ S2.size a := by decide
  exact this ⟨k % 2, Nat.mod_lt _ (by decide)⟩

/-- Slot `h` of a gather buffer, as a rectangle. -/
abbrev xrect (h : ℕ) : Rect S16x512x576 := Rect.unit (s := S16x512x576) ![h % 16, 0, 0] S1x512x576.size (xinb h)
/-- Slot `k` of a double buffer, as a rectangle. -/
abbrev brect (k : ℕ) : Rect S2x512x1024 := Rect.unit (s := S2x512x1024) ![k % 2, 0, 0] S1x512x1024.size (binb k)

theorem xwords (h : ℕ) : (xrect h).WholeWords (EltTy.packing .bf16) := by
  have : ∀ (h : Fin 16) (hh : ∀ a, (![h.val, 0, 0] : Fin 3 → Nat) a + S1x512x576.size a ≤ S16x512x576.size a),
      (Rect.unit (s := S16x512x576) ![h.val, 0, 0] S1x512x576.size hh).WholeWords (EltTy.packing .bf16) := by decide
  exact this ⟨h % 16, Nat.mod_lt _ (by decide)⟩ (xinb h)

theorem bwords (k : ℕ) : (brect k).WholeWords (EltTy.packing .bf16) := by
  have : ∀ (h : Fin 2) (hh : ∀ a, (![h.val, 0, 0] : Fin 3 → Nat) a + S1x512x1024.size a ≤ S2x512x1024.size a),
      (Rect.unit (s := S2x512x1024) ![h.val, 0, 0] S1x512x1024.size hh).WholeWords (EltTy.packing .bf16) := by decide
  exact this ⟨k % 2, Nat.mod_lt _ (by decide)⟩ (binb k)

theorem bpacked (k : ℕ) : (brect k).PackedRows (EltTy.packing .bf16) := by
  have : ∀ (h : Fin 2) (hh : ∀ a, (![h.val, 0, 0] : Fin 3 → Nat) a + S1x512x1024.size a ≤ S2x512x1024.size a),
      (Rect.unit (s := S2x512x1024) ![h.val, 0, 0] S1x512x1024.size hh).PackedRows (EltTy.packing .bf16) := by decide
  exact this ⟨k % 2, Nat.mod_lt _ (by decide)⟩ (binb k)

/-- Slot `h` of a gather buffer, as a copy names it. -/
abbrev xslot (b : Bool) (h : ℕ) : Memref sig .tc .vmem S512x576 .bf16 :=
  ((xw b).slice (xrect h) (fun _ => rfl)).squeeze S512x576 squeezes_S1x512x576_S512x576
/-- Slot `k` of an outgoing buffer, as a copy names it. -/
abbrev sslot (b : Bool) (k : ℕ) : Memref sig .tc .vmem S512x1024 .bf16 :=
  ((sbuf b).slice (brect k) (fun _ => rfl)).squeeze S512x1024 squeezes_S1x512x1024_S512x1024
/-- Slot `k` of an incoming buffer, as a copy names it. -/
abbrev rslot (b : Bool) (k : ℕ) : Memref sig .tc .vmem S512x1024 .bf16 :=
  ((rbuf b).slice (brect k) (fun _ => rfl)).squeeze S512x1024 squeezes_S1x512x1024_S512x1024

theorem xslot_exact (b : Bool) (h : ℕ) : (xslot b h).view.WordExact :=
  ((xw_whole b).wordExact_slice rfl _ (xwords h)).reshape _ _
theorem sslot_exact (b : Bool) (k : ℕ) : (sslot b k).view.WordExact :=
  ((sbuf_whole b).wordExact_slice rfl _ (bwords k)).reshape _ _
theorem rslot_exact (b : Bool) (k : ℕ) : (rslot b k).view.WordExact :=
  ((rbuf_whole b).wordExact_slice rfl _ (bwords k)).reshape _ _

abbrev dsem (a : DmaSems sig S15) (h : ℕ) : DmaSem sig :=
  ((a.slice (Rect.unit (s := S15) ![h % 15] S1.size (sinb h))).squeeze S_ squeezes_S1_S_).sem

/-- The semaphores of the gather ring: on the copy's source, -/
abbrev agS : Bool → ℕ → DmaSem sig
  | true, h => dsem cc0_scratch7 h
  | false, h => dsem cc0_scratch9 h
/-- and at its destination. -/
abbrev agV : Bool → ℕ → DmaSem sig
  | true, h => dsem cc0_scratch8 h
  | false, h => dsem cc0_scratch10 h
/-- The semaphores of the ring of partial sums: on the copy's source, -/
abbrev acS : Bool → ℕ → DmaSem sig
  | true, h => dsem cc0_scratch11 h
  | false, h => dsem cc0_scratch13 h
/-- and at its destination. -/
abbrev acV : Bool → ℕ → DmaSem sig
  | true, h => dsem cc0_scratch12 h
  | false, h => dsem cc0_scratch14 h

abbrev csem (a : Sems sig S2) (k : ℕ) : Sem sig :=
  ((a.slice (Rect.unit (s := S2) ![k % 2] S1.size (cinb k))).squeeze S_ squeezes_S1_S_).sem

/-- The semaphore by which a reader frees an incoming slot. -/
abbrev crS : Bool → ℕ → Sem sig
  | true, k => csem cc0_scratch15 k
  | false, k => csem cc0_scratch16 k

abbrev barS : Sem sig := (SemArray.scalar (sig.barrier 0 rfl) : Sems sig S_).sem

/-! ## The pure parts -/

/-- The device's number as the body computes it. -/
abbrev meW (c : Dev nD) : BitVec 32 := Scalar.remsi (Scalar.divsi (Dev.word c) 1#32) 16#32

/-- One local expert's share of a gathered slot: every row of inputs times that expert's weight. -/
abbrev part (me : BitVec 32) (le : BitVec 32) (P : FVec F S512x576 .bf16) : FVec F S512x512 .bf16 :=
  mulf (extractStridedSlice S512x512 ![0, 0] P slices_S512x576_o0_0_S512x512)
    (broadcastTo S512x512 (truncf .bf16 (shapeCast S512x1
      (multiReduction .add [1] S512
        (mulf (extf .f32 (extractStridedSlice S512x64 ![0, 512] P slices_S512x576_o0_512_S512x64) bitsLt_bf16_f32)
          (sitofp .f32 (extui 32 (cmpi .eq (iota .tc S512x64 32 [1] iota_S512x64_d1_w32)
            (broadcast S512x64 (Scalar.addi (Scalar.muli me 4#32) le))) natLt_1_32)))
        0x00000000#32 reduces_S512x64_S512 (.inl rfl) rfl) shapeCasts_S512_S512x1) bitsLt_bf16_f32) broadcasts_S512x1_S512x512)

/-- What a device's own four experts contribute to a gathered slot. -/
abbrev contrib (me : BitVec 32) (v : Vec F S1x512x576 .bf16) (w : Vec F S2048x1024 .bf16) : FVec F S512x1024 .f32 :=
  let P : FVec F S512x576 .bf16 := shapeCast S512x576 v shapeCasts_S1x512x576_S512x576
  matmul dot_S512x2048_S2048x1024_S512x1024_1_0_0_1_n_n none
    (concatenate S512x2048 1 [⟨S512x512, part me 0#32 P⟩, ⟨S512x512, part me 1#32 P⟩, ⟨S512x512, part me 2#32 P⟩, ⟨S512x512, part me 3#32 P⟩]
      concatenates_S512x512_S512x512_S512x512_S512x512_S512x2048_d1) w (constant S512x1024 .f32 0x00000000#32)

/-- A partial sum as the ring sends it. -/
abbrev msg (a : FVec F S512x1024 .f32) : FVec F S1x512x1024 .bf16 :=
  shapeCast S1x512x1024 (truncf .bf16 a bitsLt_bf16_f32) shapeCasts_S512x1024_S1x512x1024

/-- A partial sum with an arrived one added. -/
abbrev accum (a : FVec F S512x1024 .f32) (r : Vec F S1x512x1024 .bf16) : FVec F S512x1024 .f32 :=
  addf a (extf .f32 (shapeCast S512x1024 r shapeCasts_S1x512x1024_S512x1024 : FVec F S512x1024 .bf16) bitsLt_bf16_f32)

/-! ## The operations -/

abbrev TC (F : FTy → Type) (α : Type) := Prog (TpuEff nD τ sig (Elt F) Λ₀ .tc) α

/-- Start the gather copy of hop `h`. -/
abbrev agSend (c : Dev nD) (b : Bool) (h : ℕ) (K : TC F PUnit) : TC F PUnit :=
  .op (.enqueueDma (xslot b h) (.remote (Dev.tc (fwd b c)) (xslot b (h + 1)) (.dma (agS b h))) (.dma (agV b h))
    (xslot_exact b h) (xslot_exact b (h + 1)) ⟨⟨rfl, Or.inl rfl⟩, trivial⟩) fun _ => K
/-- Wait for the gather copy of hop `h` to arrive. -/
abbrev agRecv (b : Bool) (h : ℕ) (K : TC F PUnit) : TC F PUnit :=
  .op (.waitDma2 (agV b h) (xslot b h) (xslot b (h + 1)) (xslot_exact b h) (xslot_exact b (h + 1))) fun _ => K
/-- Wait for the gather copy of hop `h` to have left. -/
abbrev agSent (b : Bool) (h : ℕ) (K : TC F PUnit) : TC F PUnit :=
  .op (.waitDma2 (agS b h) (xslot b (h + 1)) (xslot b h) (xslot_exact b (h + 1)) (xslot_exact b h)) fun _ => K
/-- The contribution of a gathered slot. -/
abbrev loadC (c : Dev nD) (b : Bool) (h : ℕ) (K : FVec F S512x1024 .f32 → TC F PUnit) : TC F PUnit :=
  .op (.load (xw b) (xrect h).toLoadRect (View.loadsAt_vmem h_S1x512x576)) fun v =>
  .op (.load ewb (Rect.unit (s := S2048x1024) ![0, 0] S2048x1024.size inb_S2048x1024_S2048x1024_0_0).toLoadRect (View.loadsAt_vmem h_S2048x1024)) fun w =>
  K (contrib (meW c) v w)
/-- Write the partial sum of hop `s` out for sending. -/
abbrev putS (b : Bool) (s : ℕ) (a : FVec F S512x1024 .f32) (K : TC F PUnit) : TC F PUnit :=
  .op (.load (sbuf b) (brect s).toLoadRect (View.loadsAt_vmem h_S1x512x1024)) fun _ =>
  .op (.store (sbuf b) (brect s) (msg a) Finset.univ
    (View.stores_vmem h_S1x512x1024 ((sbuf_whole b).storeExact_slice rfl _ (bpacked s)) (fun _ => rfl)) (.inl rfl)) fun _ => K
/-- Send the partial sum of hop `s`. -/
abbrev acSend (c : Dev nD) (b : Bool) (s : ℕ) (K : TC F PUnit) : TC F PUnit :=
  .op (.enqueueDma (sslot b s) (.remote (Dev.tc (fwd b c)) (rslot b s) (.dma (acS b s))) (.dma (acV b s))
    (sslot_exact b s) (rslot_exact b s) ⟨⟨rfl, Or.inl rfl⟩, trivial⟩) fun _ => K
/-- Wait for the neighbour's partial sum of hop `s` and add it. -/
abbrev acRecv (b : Bool) (s : ℕ) (a : FVec F S512x1024 .f32) (K : FVec F S512x1024 .f32 → TC F PUnit) : TC F PUnit :=
  .op (.waitDma2 (acV b s) (sslot b s) (rslot b s) (sslot_exact b s) (rslot_exact b s)) fun _ =>
  .op (.load (rbuf b) (brect s).toLoadRect (View.loadsAt_vmem h_S1x512x1024)) fun r => K (accum a r)
/-- Wait for the partial sum of hop `s` to have left. -/
abbrev acSent (b : Bool) (s : ℕ) (K : TC F PUnit) : TC F PUnit :=
  .op (.waitDma2 (acS b s) (rslot b s) (sslot b s) (rslot_exact b s) (sslot_exact b s)) fun _ => K
/-- Tell the sender of hop `j`'s partial sum that its slot is free. -/
abbrev free (c : Dev nD) (b : Bool) (j : ℕ) (K : TC F PUnit) : TC F PUnit :=
  .op (.semSignal (bwd b c, .tc) (crS b j) (1#32).toInt) fun _ => K
/-- Wait for the slot of hop `j`'s partial sum to be free again. -/
abbrev freed (b : Bool) (j : ℕ) (K : TC F PUnit) : TC F PUnit :=
  .op (.semWait (crS b j) (1#32).toInt) fun _ => K

/-! ## The hops -/

/-- A hop's arrivals. -/
abbrev opA (s : ℕ) (cR cL : FVec F S512x1024 .f32) (K : FVec F S512x1024 .f32 → FVec F S512x1024 .f32 → TC F PUnit) : TC F PUnit :=
  acRecv true s cR fun cR => acRecv false s cL fun cL => K cR cL
/-- A hop's freeing of the slots it read. -/
abbrev opB (c : Dev nD) (j : ℕ) (K : TC F PUnit) : TC F PUnit := free c true j (free c false j K)
/-- A hop's waits for the slots it will write. -/
abbrev opC (j : ℕ) (K : TC F PUnit) : TC F PUnit :=
  freed true j (acSent true j (freed false j (acSent false j K)))
/-- A hop's departures. -/
abbrev opD (c : Dev nD) (s : ℕ) (cR cL : FVec F S512x1024 .f32) (K : TC F PUnit) : TC F PUnit :=
  putS true s cR (putS false s cL (acSend c true s (acSend c false s K)))
/-- A hop's waits for gathered slots. -/
abbrev opE (h : ℕ) (K : TC F PUnit) : TC F PUnit := agRecv true h (agRecv false h K)
/-- A hop's contributions. -/
abbrev opG (c : Dev nD) (h : ℕ) (K : FVec F S512x1024 .f32 → FVec F S512x1024 .f32 → TC F PUnit) : TC F PUnit :=
  loadC c true h fun cR => loadC c false h fun cL => K cR cL
/-- A hop's waits for its gather copies to have left. -/
abbrev opH (h : ℕ) (K : TC F PUnit) : TC F PUnit := agSent true h (agSent false h K)
/-- A hop's gather copies. -/
abbrev opI (c : Dev nD) (h : ℕ) (K : TC F PUnit) : TC F PUnit := agSend c true h (agSend c false h K)

/-- A middle hop. -/
def mid (c : Dev nD) (s : ℕ) (cR cL : FVec F S512x1024 .f32) (K : FVec F S512x1024 .f32 → FVec F S512x1024 .f32 → TC F PUnit) : TC F PUnit :=
  opA (s + 1) cR cL fun cR cL => opB c (s + 1) <| opC s <| opD c (s + 2) cR cL <| opE (s + 3) <| opG c (s + 4) fun cR' cL' =>
  opH (s + 2) <| opI c (s + 4) <| K cR' cL'

/-- `n` middle hops from hop `s` on. -/
def mids (c : Dev nD) : ℕ → ℕ → FVec F S512x1024 .f32 → FVec F S512x1024 .f32 →
    (FVec F S512x1024 .f32 → FVec F S512x1024 .f32 → TC F PUnit) → TC F PUnit
  | 0, _, cR, cL, K => K cR cL
  | n + 1, s, cR, cL, K => mid c s cR cL fun cR cL => mids c n (s + 1) cR cL K

/-- What a device first puts in a gather buffer. -/
abbrev pack5 (x : Vec F S1024x512 .bf16) (r : Vec F S512x64 .bf16) (i0 i1 : Vec F S1024x1 .i32) : Bool → FVec F S1x512x576 .bf16
  | true => k0_pay5 (k0_pay1 x) (k0_pay2 x r) (iota .tc S1024x64 32 [1] iota_S1024x64_d1_w32) (k0_pay3 i0) i1
  | false => k0_pay6 (k0_pay1 x) (k0_pay2 x r) (iota .tc S1024x64 32 [1] iota_S1024x64_d1_w32) (k0_pay3 i0) i1

/-- Fill slot 0 of a gather buffer. -/
abbrev fill (b : Bool) (v : FVec F S1x512x576 .bf16) (K : TC F PUnit) : TC F PUnit :=
  .op (.load (xw b) (xrect 0).toLoadRect (View.loadsAt_vmem h_S1x512x576)) fun _ =>
  .op (.store (xw b) (xrect 0) v Finset.univ (View.stores_vmem h_S1x512x576
    ((xw_whole b).storeExact_slice rfl _ packedbf16_S16x512x576_S1x512x576_0_0_0) (fun _ => rfl)) (.inl rfl)) fun _ => K

section
variable (arg0 : Memref sig .tc .vmem S1024x512 .bf16) (arg1 : Memref sig .tc .vmem S512x64 .bf16) (arg2 : Memref sig .tc .vmem S1024x2 .i32)
  (arg3 : Memref sig .tc .vmem S4x512x1024 .bf16) (arg4 : Memref sig .tc .vmem S1024x1024 .f32)

/-- Up to the first wait: the barrier with both neighbours, the first slot, the first gather copies, the weights. -/
def head (c : Dev nD) (K : TC F PUnit) : TC F PUnit :=
  .op (.semSignal (leftOf c, .tc) barS (1#32).toInt) fun _ =>
  .op (.semSignal (rightOf c, .tc) barS (1#32).toInt) fun _ =>
  .op (.semWait barS (2#32).toInt) fun _ =>
  .op (.load arg0 (Rect.unit (s := S1024x512) ![0, 0] S1024x512.size inb_S1024x512_S1024x512_0_0).toLoadRect (View.loadsAt_vmem h_S1024x512)) fun x =>
  .op (.load arg1 (Rect.unit (s := S512x64) ![0, 0] S512x64.size inb_S512x64_S512x64_0_0).toLoadRect (View.loadsAt_vmem h_S512x64)) fun r =>
  .op (.load arg2 (Rect.unit (s := S1024x2) ![0, 0] S1024x1.size inb_S1024x2_S1024x1_0_0).toLoadRect (View.loadsAt_vmem h_S1024x1)) fun i0 =>
  .op (.load arg2 (Rect.unit (s := S1024x2) ![0, 1] S1024x1.size inb_S1024x2_S1024x1_0_1).toLoadRect (View.loadsAt_vmem h_S1024x1)) fun i1 =>
  fill true (pack5 x r i0 i1 true) <| fill false (pack5 x r i0 i1 false) <|
  opI c 0 <|
  .op (.load arg3 (Rect.unit (s := S4x512x1024) ![0, 0, 0] S4x512x1024.size inb_S4x512x1024_S4x512x1024_0_0_0).toLoadRect (View.loadsAt_vmem h_S4x512x1024)) fun e =>
  .op (.load ewb (Rect.unit (s := S2048x1024) ![0, 0] S2048x1024.size inb_S2048x1024_S2048x1024_0_0).toLoadRect (View.loadsAt_vmem h_S2048x1024)) fun _ =>
  .op (.store ewb (Rect.unit (s := S2048x1024) ![0, 0] S2048x1024.size inb_S2048x1024_S2048x1024_0_0) (k0_pay7 e) Finset.univ
    (View.stores_vmem h_S2048x1024 ((Memref.isWhole_whole cc0_scratch2).storeExact_slice rfl _ packedbf16_S2048x1024_S2048x1024_0_0) (fun _ => rfl)) (.inl rfl)) fun _ => K

/-- The first two hops, which have no slot to wait for. -/
def early (c : Dev nD) (K : FVec F S512x1024 .f32 → FVec F S512x1024 .f32 → TC F PUnit) : TC F PUnit :=
  opE 0 <| opH 0 <| opI c 1 <| opG c 1 fun cR cL => opD c 0 cR cL <| opE 1 <| opG c 2 fun cR' cL' => opI c 2 <|
  opA 0 cR' cL' fun cR cL => opB c 0 <| opD c 1 cR cL <| opE 2 <| opG c 3 fun cR' cL' => opH 1 <| opI c 3 <| K cR' cL'

/-- The last three hops, which send nothing on in the gather ring, and the last waits. -/
def late (c : Dev nD) (cR cL : FVec F S512x1024 .f32) : TC F PUnit :=
  opA 12 cR cL fun cR cL => opB c 12 <| opC 11 <| opD c 13 cR cL <| opE 14 <| opG c 15 fun cR cL =>
  opA 13 cR cL fun cR cL => opC 12 <| opD c 14 cR cL <| opG c 16 fun cR cL =>
  opA 14 cR cL fun cR cL =>
  .op (.load arg4 (Rect.unit (s := S1024x1024) ![0, 0] S512x1024.size inb_S1024x1024_S512x1024_0_0).toLoadRect (View.loadsAt_vmem h_S512x1024)) fun _ =>
  .op (.store arg4 (Rect.unit (s := S1024x1024) ![0, 0] S512x1024.size inb_S1024x1024_S512x1024_0_0) cR Finset.univ
    (View.stores_vmem_bits_univ h_S512x1024 rfl) (.inl rfl)) fun _ =>
  .op (.load arg4 (Rect.unit (s := S1024x1024) ![512, 0] S512x1024.size inb_S1024x1024_S512x1024_512_0).toLoadRect (View.loadsAt_vmem h_S512x1024)) fun _ =>
  .op (.store arg4 (Rect.unit (s := S1024x1024) ![512, 0] S512x1024.size inb_S1024x1024_S512x1024_512_0) cL Finset.univ
    (View.stores_vmem_bits_univ h_S512x1024 rfl) (.inl rfl)) fun _ =>
  acSent true 13 <| acSent true 14 <| acSent false 13 <| acSent false 14 <| agSent true 13 <| agSent false 13 <| agSent true 14 <| agSent false 14 <| .ret ⟨⟩

/-- The whole body. -/
def text : TC F PUnit :=
  .op .deviceId fun c => head arg0 arg1 arg2 arg3 c <| early c fun cR cL => mids c 11 0 cR cL fun cR cL => late arg4 c cR cL

end

set_option maxRecDepth 1000000 in
/-- The printed body, at the buffers the pipeline calls it with, is that sequence. -/
theorem body_text (t : Fin cfg0.N) : bodyAt0 (F := F) t
    = text (win0_0.stage (cfg0.slots t 0)) (win0_1.stage (cfg0.slots t 1)) (win0_2.stage (cfg0.slots t 2))
        (win0_3.stage (cfg0.slots t 3)) (win0_4.stage (cfg0.slots t 4)) := by
  unfold bodyAt0 text
  rfl

end Cert.Moe
-- ==== Proof.Ring.lean ====
/- The two rings' protocol: who holds which slot when.

   Every buffer slot is held piece by piece (`xs`, `ss`, `rs`), every semaphore is a cell of the rounds
   library with the payload written in `rd`, and `due` is what a device still owes its neighbours. -/
module

public import proofs.«01_k».proof.Proof.Text
public import Idealize.ShloMosaic.Lib.Pipeline.Launch
public import Idealize.ShloMosaic.Lib.Pipeline.Kit
public import Idealize.ShloMosaic.Lib.MemrefSat
public import Idealize.ShloMosaic.Lib.Rounds

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-! ## Devices -/

theorem fwd_val (b : Bool) (c : Dev nD) : (fwd b c).val = if b then (c.val + 1) % 16 else (c.val + 15) % 16 := by
  cases b
  · exact k0_dev4_eq c
  · exact k0_dev3_eq c
theorem bwd_val (b : Bool) (c : Dev nD) : (bwd b c).val = if b then (c.val + 15) % 16 else (c.val + 1) % 16 := by
  cases b
  · exact k0_dev3_eq c
  · exact k0_dev4_eq c
theorem dev_lt (c : Dev nD) : c.val < 16 := c.isLt
theorem fwd_bwd (b : Bool) (c : Dev nD) : fwd b (bwd b c) = c := by
  have := dev_lt c
  apply Fin.ext; rw [fwd_val, bwd_val]; cases b <;> simp <;> omega
theorem bwd_fwd (b : Bool) (c : Dev nD) : bwd b (fwd b c) = c := by
  have := dev_lt c
  apply Fin.ext; rw [bwd_val, fwd_val]; cases b <;> simp <;> omega

/-- Going one way round is a permutation of the devices. -/
def turn (b : Bool) : Dev nD ≃ Dev nD := ⟨fwd b, bwd b, bwd_fwd b, fwd_bwd b⟩

/-- Whose inputs arrive in slot `j` of a device's gather buffer. -/
def src (b : Bool) : ℕ → Dev nD → Dev nD
  | 0, c => c
  | j + 1, c => src b j (bwd b c)

theorem src_succ (b : Bool) (j : ℕ) (c : Dev nD) : src b (j + 1) c = bwd b (src b j c) := by
  induction j generalizing c with
  | zero => rfl
  | succ j ih => exact ih (bwd b c)

theorem src_fwd (b : Bool) (j : ℕ) (c : Dev nD) : src b (j + 1) (fwd b c) = src b j c := by
  show src b j (bwd b (fwd b c)) = _
  rw [bwd_fwd]

/-! ## Semaphores -/

theorem dsem_val (a : DmaSems sig S15) (o : ℕ) (ho : ∀ h : Fin 15, ∀ hh : ∀ x, (![h.val] : Fin 1 → Nat) x + S1.size x ≤ S15.size x,
      (((a.slice (Rect.unit (s := S15) ![h.val] S1.size hh)).squeeze S_ squeezes_S1_S_).sem).val = o + h.val) (h : ℕ) :
    (dsem a h).val = o + h % 15 := ho ⟨h % 15, Nat.mod_lt _ (by decide)⟩ (sinb h)

theorem csem_val (a : Sems sig S2) (o : ℕ) (ho : ∀ h : Fin 2, ∀ hh : ∀ x, (![h.val] : Fin 1 → Nat) x + S1.size x ≤ S2.size x,
      (((a.slice (Rect.unit (s := S2) ![h.val] S1.size hh)).squeeze S_ squeezes_S1_S_).sem).val = o + h.val) (h : ℕ) :
    (csem a h).val = o + h % 2 := ho ⟨h % 2, Nat.mod_lt _ (by decide)⟩ (cinb h)

/-- Where a direction's semaphores start within a stage's. -/
abbrev dirO (b : Bool) : ℕ := if b then 0 else 30

theorem agS_val (b : Bool) (h : ℕ) : (agS b h).val = 5 + (dirO b + h % 15) := by
  cases b
  · exact (dsem_val cc0_scratch9 35 (by decide) h).trans (Nat.add_assoc 5 30 _)
  · exact (dsem_val cc0_scratch7 5 (by decide) h).trans (congrArg (5 + ·) (Nat.zero_add _).symm)
theorem agV_val (b : Bool) (h : ℕ) : (agV b h).val = 5 + (dirO b + 15 + h % 15) := by
  cases b
  · exact (dsem_val cc0_scratch10 50 (by decide) h).trans (Nat.add_assoc 5 45 _)
  · exact (dsem_val cc0_scratch8 20 (by decide) h).trans (Nat.add_assoc 5 15 _)
theorem acS_val (b : Bool) (h : ℕ) : (acS b h).val = 5 + (60 + dirO b + h % 15) := by
  cases b
  · exact (dsem_val cc0_scratch13 95 (by decide) h).trans (Nat.add_assoc 5 90 _)
  · exact (dsem_val cc0_scratch11 65 (by decide) h).trans (Nat.add_assoc 5 60 _)
theorem acV_val (b : Bool) (h : ℕ) : (acV b h).val = 5 + (60 + dirO b + 15 + h % 15) := by
  cases b
  · exact (dsem_val cc0_scratch14 110 (by decide) h).trans (Nat.add_assoc 5 105 _)
  · exact (dsem_val cc0_scratch12 80 (by decide) h).trans (Nat.add_assoc 5 75 _)
theorem crS_val (b : Bool) (k : ℕ) : (crS b k).val = (if b then 0 else 2) + k % 2 := by
  cases b
  · exact csem_val cc0_scratch16 2 (by decide) k
  · exact csem_val cc0_scratch15 0 (by decide) k
theorem barS_val : (barS).val = 4 := rfl

theorem crS_mod (b : Bool) (k : ℕ) : crS b (k % 2) = crS b k := by
  apply Fin.ext; rw [crS_val, crS_val, Nat.mod_mod]

abbrev cell (c : Dev nD) (s : SemLoc sig) : GSem nD τ sig := ((c : Thread nD τ), s)
abbrev agSc (b : Bool) (h : ℕ) (c : Dev nD) : GSem nD τ sig := cell c (.dma (agS b h))
abbrev agVc (b : Bool) (h : ℕ) (c : Dev nD) : GSem nD τ sig := cell c (.dma (agV b h))
abbrev acSc (b : Bool) (h : ℕ) (c : Dev nD) : GSem nD τ sig := cell c (.dma (acS b h))
abbrev acVc (b : Bool) (h : ℕ) (c : Dev nD) : GSem nD τ sig := cell c (.dma (acV b h))
abbrev crc (b : Bool) (k : ℕ) (c : Dev nD) : GSem nD τ sig := cell c (.reg (crS b k))
abbrev barc (c : Dev nD) : GSem nD τ sig := cell c (.reg barS)

/-- The bytes of a gather copy, in semaphore units; -/
abbrev N1 : ℕ := (xslot true 0).view.dmaCredit
/-- and of a copy of a partial sum. -/
abbrev N2 : ℕ := (sslot true 0).view.dmaCredit
theorem N1_pos : 0 < N1 := View.dmaCredit_pos _ (by decide)
theorem N2_pos : 0 < N2 := View.dmaCredit_pos _ (by decide)
theorem xslot_credit (b : Bool) (h : ℕ) : (xslot b h).view.dmaCredit = N1 := by cases b <;> rfl
theorem sslot_credit (b : Bool) (h : ℕ) : (sslot b h).view.dmaCredit = N2 := by cases b <;> rfl
theorem rslot_credit (b : Bool) (h : ℕ) : (rslot b h).view.dmaCredit = N2 := by cases b <;> rfl

/-! ## Slots -/

/-- Slot `j` of a gather buffer holds `X`, at a share; -/
def xs (b : Bool) (j : ℕ) (c : Dev nD) (q : PosShare TreeShare) (X : S1x512x576.Idx → Elt F .bf16) : sProp 𝕄 :=
  owns (c : Thread nD τ) ((xw b).slice (xrect j) (fun _ => rfl)) q X
/-- slot `k` of an outgoing buffer, -/
def ss (b : Bool) (k : ℕ) (c : Dev nD) (Y : S1x512x1024.Idx → Elt F .bf16) : sProp 𝕄 :=
  owns (c : Thread nD τ) ((sbuf b).slice (brect k) (fun _ => rfl)) fullShare Y
/-- and of an incoming one. -/
def rs (b : Bool) (k : ℕ) (c : Dev nD) (Y : S1x512x1024.Idx → Elt F .bf16) : sProp 𝕄 :=
  owns (c : Thread nD τ) ((rbuf b).slice (brect k) (fun _ => rfl)) fullShare Y

/-- The same at any contents. -/
def xsA (b : Bool) (j : ℕ) (c : Dev nD) : sProp 𝕄 := iprop(∃ X, xs (F := F) b j c fullShare X)
def ssA (b : Bool) (k : ℕ) (c : Dev nD) : sProp 𝕄 := iprop(∃ Y, ss (F := F) b k c Y)
def rsA (b : Bool) (k : ℕ) (c : Dev nD) : sProp 𝕄 := iprop(∃ Y, rs (F := F) b k c Y)

section Storable
omit [FloatOps F]
instance xs_st (b : Bool) (j : ℕ) (c : Dev nD) (q) (X) : BI.Storable (upEmb : UEmb _ 𝕄) (xs (F := F) b j c q X) := by unfold xs; infer_instance
instance ss_st (b : Bool) (j : ℕ) (c : Dev nD) (X) : BI.Storable (upEmb : UEmb _ 𝕄) (ss (F := F) b j c X) := by unfold ss; infer_instance
instance rs_st (b : Bool) (j : ℕ) (c : Dev nD) (X) : BI.Storable (upEmb : UEmb _ 𝕄) (rs (F := F) b j c X) := by unfold rs; infer_instance
instance xsA_st (b : Bool) (j : ℕ) (c : Dev nD) : BI.Storable (upEmb : UEmb _ 𝕄) (xsA (F := F) b j c) := by unfold xsA; infer_instance
instance ssA_st (b : Bool) (j : ℕ) (c : Dev nD) : BI.Storable (upEmb : UEmb _ 𝕄) (ssA (F := F) b j c) := by unfold ssA; infer_instance
instance rsA_st (b : Bool) (j : ℕ) (c : Dev nD) : BI.Storable (upEmb : UEmb _ 𝕄) (rsA (F := F) b j c) := by unfold rsA; infer_instance

theorem ss_mod (b : Bool) (k : ℕ) (c : Dev nD) (Y : S1x512x1024.Idx → Elt F .bf16) : ss b (k % 2) c Y = ss b k c Y := by
  have key : ∀ (o o' : Fin 3 → ℕ) (h : o = o') (i : ∀ a, o a + S1x512x1024.size a ≤ S2x512x1024.size a) (i' : ∀ a, o' a + S1x512x1024.size a ≤ S2x512x1024.size a),
      (owns (c : Thread nD τ) ((sbuf b).slice (Rect.unit (s := S2x512x1024) o S1x512x1024.size i) (fun _ => rfl)) fullShare Y : sProp 𝕄)
        = owns (c : Thread nD τ) ((sbuf b).slice (Rect.unit (s := S2x512x1024) o' S1x512x1024.size i') (fun _ => rfl)) fullShare Y := by
    intro o o' h i i'; subst h; rfl
  exact key _ _ (by rw [Nat.mod_mod]) (binb (k % 2)) (binb k)

theorem rs_mod (b : Bool) (k : ℕ) (c : Dev nD) (Y : S1x512x1024.Idx → Elt F .bf16) : rs b (k % 2) c Y = rs b k c Y := by
  have key : ∀ (o o' : Fin 3 → ℕ) (h : o = o') (i : ∀ a, o a + S1x512x1024.size a ≤ S2x512x1024.size a) (i' : ∀ a, o' a + S1x512x1024.size a ≤ S2x512x1024.size a),
      (owns (c : Thread nD τ) ((rbuf b).slice (Rect.unit (s := S2x512x1024) o S1x512x1024.size i) (fun _ => rfl)) fullShare Y : sProp 𝕄)
        = owns (c : Thread nD τ) ((rbuf b).slice (Rect.unit (s := S2x512x1024) o' S1x512x1024.size i') (fun _ => rfl)) fullShare Y := by
    intro o o' h i i'; subst h; rfl
  exact key _ _ (by rw [Nat.mod_mod]) (binb (k % 2)) (binb k)

theorem ssA_mod (b : Bool) (k : ℕ) (c : Dev nD) : ssA (F := F) b (k % 2) c = ssA b k c := by unfold ssA; simp only [ss_mod]
theorem rsA_mod (b : Bool) (k : ℕ) (c : Dev nD) : rsA (F := F) b (k % 2) c = rsA b k c := by unfold rsA; simp only [rs_mod]

end Storable

/-! ## Contents

`pk b c` is what device `c` first puts in its gather buffer, `wt c` its weights. -/

section Contents
variable (pk : Bool → Dev nD → S1x512x576.Idx → Elt F .bf16) (wt : Dev nD → S2048x1024.Idx → Elt F .bf16)

/-- The contents of slot `j` of device `c`'s gather buffer. -/
def xv (b : Bool) (j : ℕ) (c : Dev nD) : S1x512x576.Idx → Elt F .bf16 := pk b (src b j c)
/-- Device `c`'s contribution from slot `j`. -/
def con (b : Bool) (j : ℕ) (c : Dev nD) : FVec F S512x1024 .f32 := contrib (meW c) (xv pk b j c) (wt c)
/-- Device `c`'s partial sum of hop `s`. -/
def acc (b : Bool) : ℕ → Dev nD → FVec F S512x1024 .f32
  | 0, c => con pk wt b 1 c
  | s + 1, c => accum (con pk wt b (s + 2) c) (msg (acc b s (bwd b c)))
/-- What the ring sends of it. -/
def out (b : Bool) (s : ℕ) (c : Dev nD) : S1x512x1024.Idx → Elt F .bf16 := msg (acc pk wt b s c)

/-! ## The schedule -/

def payAgS (b : Bool) (h : ℕ) (c : Dev nD) : sProp 𝕄 := xs b h c fullShare.left (xv pk b h c)
def payAgV (b : Bool) (h : ℕ) (c : Dev nD) : sProp 𝕄 := xs b (h + 1) c fullShare (xv pk b (h + 1) c)
def payAcS (b : Bool) (s : ℕ) (c : Dev nD) : sProp 𝕄 := ssA (F := F) b s c
def payAcV (b : Bool) (s : ℕ) (c : Dev nD) : sProp 𝕄 :=
  iprop(rs b s c (out pk wt b s (bwd b c)) ∗ reached ER (crc b s (bwd b c)) (s / 2))
def payCr (b : Bool) (k : ℕ) (c : Dev nD) : sProp 𝕄 := rsA (F := F) b k (fwd b c)
def payBar (b : Bool) (c : Dev nD) : sProp 𝕄 :=
  iprop(bigSep (Finset.Ico 1 16) (fun j => xsA (F := F) b j (fwd b c)) ∗ bigSep (Finset.Ico 0 2) (fun k => rsA (F := F) b k (fwd b c)))

/-- The payload of the copy semaphore numbered `n` among the copies'. -/
def dmaPay (c : Dev nD) (n : ℕ) : sProp 𝕄 :=
  if n < 60 then
    (if n % 30 < 15 then payAgS pk (decide (n % 60 < 30)) (n % 15) c else payAgV pk (decide (n % 60 < 30)) (n % 15) c)
  else
    (if n % 30 < 15 then payAcS (F := F) (decide (n % 60 < 30)) (n % 15) c else payAcV pk wt (decide (n % 60 < 30)) (n % 15) c)

def rd : Rounds.Schedule (GSem nD τ sig) Bool 𝕄 where
  duties g r := match g.2 with
    | .dma q => if r = 0 then {true} else ∅
    | .reg q => if q.val < 4 then (if 2 * r + q.val % 2 < 13 then {true} else ∅) else if r = 0 then Finset.univ else ∅
  unitless _ := False
  amount g _ _ := match g.2 with
    | .dma q => if q.val - 5 < 60 then N1 else N2
    | .reg _ => 1
  payload g r d := match g.2 with
    | .dma q => dmaPay pk wt g.1.1 (q.val - 5)
    | .reg q => if q.val < 4 then payCr (F := F) (decide (q.val < 2)) (q.val % 2) g.1.1 else payBar (F := F) d g.1.1
  amount_pos g _ _ _ := by
    rcases g with ⟨_, q | q⟩
    · exact Nat.one_pos
    · dsimp only; split
      · exact N1_pos
      · exact N2_pos

instance rd_storable (g : GSem nD τ sig) (r : ℕ) (d : Bool) : BI.Storable (upEmb : UEmb _ 𝕄) ((rd pk wt).payload g r d) := by
  rcases g with ⟨_, q | q⟩
  · show BI.Storable upEmb (if q.val < 4 then _ else _)
    unfold payCr payBar
    split <;> infer_instance
  · show BI.Storable upEmb (dmaPay pk wt _ _)
    unfold dmaPay payAgS payAgV payAcS payAcV
    (repeat' split) <;> infer_instance

theorem duties_dma (c : Dev nD) (q : DmaSem sig) : (rd pk wt).duties (cell c (.dma q)) 0 = {true} := rfl
theorem duties_dma_later (c : Dev nD) (q : DmaSem sig) (r : ℕ) (h : 1 ≤ r) : (rd pk wt).duties (cell c (.dma q)) r = ∅ :=
  if_neg (by omega)
theorem duties_cr (b : Bool) (k r : ℕ) (c : Dev nD) (h : 2 * r + k % 2 < 13) : (rd pk wt).duties (crc b k c) r = {true} := by
  have h1 : (crS b k).val < 4 := by rw [crS_val]; have := Nat.mod_lt k (show 0 < 2 by decide); split <;> omega
  have h2 : (crS b k).val % 2 = k % 2 := by rw [crS_val]; split <;> omega
  show (if (crS b k).val < 4 then (if 2 * r + (crS b k).val % 2 < 13 then _ else _) else _) = _
  rw [if_pos h1, h2, if_pos h]
theorem duties_cr_later (b : Bool) (k r : ℕ) (c : Dev nD) (h : 13 ≤ 2 * r + k % 2) : (rd pk wt).duties (crc b k c) r = ∅ := by
  have h1 : (crS b k).val < 4 := by rw [crS_val]; have := Nat.mod_lt k (show 0 < 2 by decide); split <;> omega
  have h2 : (crS b k).val % 2 = k % 2 := by rw [crS_val]; split <;> omega
  show (if (crS b k).val < 4 then (if 2 * r + (crS b k).val % 2 < 13 then _ else _) else _) = _
  rw [if_pos h1, h2, if_neg (by omega)]
theorem duties_bar (c : Dev nD) : (rd pk wt).duties (barc c) 0 = Finset.univ := rfl
theorem duties_bar_later (c : Dev nD) (r : ℕ) (h : 1 ≤ r) : (rd pk wt).duties (barc c) r = ∅ := if_neg (by omega)

theorem amount_agS (b : Bool) (h : ℕ) (c : Dev nD) (d : Bool) : (rd pk wt).amount (agSc b h c) 0 d = N1 := by
  show (if (agS b h).val - 5 < 60 then _ else _) = _
  rw [if_pos (by rw [agS_val, dirO]; split <;> omega)]
theorem amount_agV (b : Bool) (h : ℕ) (c : Dev nD) (d : Bool) : (rd pk wt).amount (agVc b h c) 0 d = N1 := by
  show (if (agV b h).val - 5 < 60 then _ else _) = _
  rw [if_pos (by rw [agV_val, dirO]; split <;> omega)]
theorem amount_acS (b : Bool) (h : ℕ) (c : Dev nD) (d : Bool) : (rd pk wt).amount (acSc b h c) 0 d = N2 := by
  show (if (acS b h).val - 5 < 60 then _ else _) = _
  rw [if_neg (by rw [acS_val, dirO]; split <;> omega)]
theorem amount_acV (b : Bool) (h : ℕ) (c : Dev nD) (d : Bool) : (rd pk wt).amount (acVc b h c) 0 d = N2 := by
  show (if (acV b h).val - 5 < 60 then _ else _) = _
  rw [if_neg (by rw [acV_val, dirO]; split <;> omega)]
theorem amount_reg (c : Dev nD) (s : Sem sig) (r : ℕ) (d : Bool) : (rd pk wt).amount (cell c (.reg s)) r d = 1 := rfl

theorem expect_agS (b : Bool) (h : ℕ) (c : Dev nD) : (rd pk wt).expect (agSc b h c) 0 = N1 := by
  unfold Schedule.expect Schedule.amountOf; rw [duties_dma, Finset.sum_singleton, amount_agS]
theorem expect_agV (b : Bool) (h : ℕ) (c : Dev nD) : (rd pk wt).expect (agVc b h c) 0 = N1 := by
  unfold Schedule.expect Schedule.amountOf; rw [duties_dma, Finset.sum_singleton, amount_agV]
theorem expect_acS (b : Bool) (h : ℕ) (c : Dev nD) : (rd pk wt).expect (acSc b h c) 0 = N2 := by
  unfold Schedule.expect Schedule.amountOf; rw [duties_dma, Finset.sum_singleton, amount_acS]
theorem expect_acV (b : Bool) (h : ℕ) (c : Dev nD) : (rd pk wt).expect (acVc b h c) 0 = N2 := by
  unfold Schedule.expect Schedule.amountOf; rw [duties_dma, Finset.sum_singleton, amount_acV]
theorem expect_cr (b : Bool) (k r : ℕ) (c : Dev nD) (h : 2 * r + k % 2 < 13) : (rd pk wt).expect (crc b k c) r = 1 := by
  unfold Schedule.expect Schedule.amountOf; rw [duties_cr pk wt b k r c h, Finset.sum_singleton, amount_reg]
theorem expect_bar (c : Dev nD) : (rd pk wt).expect (barc c) 0 = 2 := by
  unfold Schedule.expect Schedule.amountOf
  rw [duties_bar, Finset.sum_congr rfl fun d _ => amount_reg pk wt c barS 0 d, Finset.sum_const, Finset.card_univ, Fintype.card_bool, smul_eq_mul]

section
variable (b : Bool) (h : ℕ) (hh : h < 15) (c : Dev nD)
include hh
theorem pay_agS : (rd pk wt).payload (agSc b h c) 0 true = payAgS pk b h c := by
  show dmaPay pk wt c ((agS b h).val - 5) = _
  rw [agS_val, Nat.add_sub_cancel_left, Nat.mod_eq_of_lt hh]
  unfold dmaPay
  rw [if_pos (by cases b <;> simp [dirO] <;> omega), if_pos (by cases b <;> simp [dirO] <;> omega)]
  rw [show decide ((dirO b + h) % 60 < 30) = b by cases b <;> simp [dirO] <;> omega, show (dirO b + h) % 15 = h by cases b <;> simp [dirO] <;> omega]
theorem pay_agV : (rd pk wt).payload (agVc b h c) 0 true = payAgV pk b h c := by
  show dmaPay pk wt c ((agV b h).val - 5) = _
  rw [agV_val, Nat.add_sub_cancel_left, Nat.mod_eq_of_lt hh]
  unfold dmaPay
  rw [if_pos (by cases b <;> simp [dirO] <;> omega), if_neg (by cases b <;> simp [dirO] <;> omega)]
  rw [show decide ((dirO b + 15 + h) % 60 < 30) = b by cases b <;> simp [dirO] <;> omega, show (dirO b + 15 + h) % 15 = h by cases b <;> simp [dirO] <;> omega]
theorem pay_acS : (rd pk wt).payload (acSc b h c) 0 true = payAcS b h c := by
  show dmaPay pk wt c ((acS b h).val - 5) = _
  rw [acS_val, Nat.add_sub_cancel_left, Nat.mod_eq_of_lt hh]
  unfold dmaPay
  rw [if_neg (by cases b <;> simp [dirO] <;> omega), if_pos (by cases b <;> simp [dirO] <;> omega)]
  rw [show decide ((60 + dirO b + h) % 60 < 30) = b by cases b <;> simp [dirO] <;> omega, show (60 + dirO b + h) % 15 = h by cases b <;> simp [dirO] <;> omega]
theorem pay_acV : (rd pk wt).payload (acVc b h c) 0 true = payAcV pk wt b h c := by
  show dmaPay pk wt c ((acV b h).val - 5) = _
  rw [acV_val, Nat.add_sub_cancel_left, Nat.mod_eq_of_lt hh]
  unfold dmaPay
  rw [if_neg (by cases b <;> simp [dirO] <;> omega), if_neg (by cases b <;> simp [dirO] <;> omega)]
  rw [show decide ((60 + dirO b + 15 + h) % 60 < 30) = b by cases b <;> simp [dirO] <;> omega, show (60 + dirO b + 15 + h) % 15 = h by cases b <;> simp [dirO] <;> omega]
end

theorem pay_cr (b : Bool) (k r : ℕ) (c : Dev nD) : (rd pk wt).payload (crc b k c) r true = rsA b k (fwd b c) := by
  have h1 : (crS b k).val < 4 := by rw [crS_val]; have := Nat.mod_lt k (show 0 < 2 by decide); split <;> omega
  have h2 : (crS b k).val % 2 = k % 2 := by rw [crS_val]; split <;> omega
  have h3 : decide ((crS b k).val < 2) = b := by rw [crS_val]; cases b <;> simp <;> omega
  show (if (crS b k).val < 4 then payCr (F := F) (decide ((crS b k).val < 2)) ((crS b k).val % 2) c else _) = _
  rw [if_pos h1, h2, h3, payCr, rsA_mod]
theorem pay_bar (b : Bool) (c : Dev nD) : (rd pk wt).payload (barc c) 0 b = payBar b c := by
  dsimp only [rd]; exact if_neg (show ¬ (barS).val < 4 by decide)

theorem rest_dma (c : Dev nD) (q : DmaSem sig) :
    bigSep ((rd pk wt).duties (cell c (.dma q)) 0 \ ∅) (fun d => (rd pk wt).payload (cell c (.dma q)) 0 d) = (rd pk wt).payload (cell c (.dma q)) 0 true := by
  rw [Finset.sdiff_empty, duties_dma, bigSep_singleton]
theorem rest_cr (b : Bool) (k r : ℕ) (c : Dev nD) (h : 2 * r + k % 2 < 13) :
    bigSep ((rd pk wt).duties (crc b k c) r \ ∅) (fun d => (rd pk wt).payload (crc b k c) r d) = rsA b k (fwd b c) := by
  rw [Finset.sdiff_empty, duties_cr pk wt b k r c h, bigSep_singleton, pay_cr]
theorem rest_bar (c : Dev nD) :
    bigSep ((rd pk wt).duties (barc c) 0 \ ∅) (fun d => (rd pk wt).payload (barc c) 0 d) = iprop(payBar (F := F) true c ∗ payBar (F := F) false c) := by
  rw [Finset.sdiff_empty, duties_bar, bigSep_univ_eq_bigSepL [true, false] (by decide) (by decide), bigSepL_cons_cons, bigSepL_singleton, pay_bar, pay_bar]
  rfl

end Contents

/-! ## Levels and dues -/

def L (g : GSem nD τ sig) : Finset ℕ := if g.1.2 = .tc then Finset.range 7 else ∅
/-- A wait's place in the order in which the program makes them. -/
def lv (g : GSem nD τ sig) (i : ℕ) : ℕ := match g.2 with
  | .dma q => if q.val < 5 then 0 else if (q.val - 5) % 30 < 15 then 0
      else if q.val - 5 < 60 then 10 * ((q.val - 5) % 15) + 2 else 10 * ((q.val - 5) % 15) + 20
  | .reg q => if q.val < 4 then 10 * (2 * i + q.val % 2) + 31 else 1

theorem L_of_ne (g : GSem nD τ sig) (h : g.1.2 ≠ .tc) : L g = ∅ := if_neg h
theorem L_tc (c : Dev nD) (sm : SemLoc sig) : L (cell c sm) = Finset.range 7 := if_pos rfl

theorem lv_agS (b : Bool) (h : ℕ) (c : Dev nD) : lv (agSc b h c) 0 = 0 := by
  show (if (agS b h).val < 5 then 0 else if ((agS b h).val - 5) % 30 < 15 then 0 else _) = 0
  rw [agS_val, if_neg (by omega), if_pos (by cases b <;> simp [dirO] <;> omega)]
theorem lv_acS (b : Bool) (h : ℕ) (c : Dev nD) : lv (acSc b h c) 0 = 0 := by
  show (if (acS b h).val < 5 then 0 else if ((acS b h).val - 5) % 30 < 15 then 0 else _) = 0
  rw [acS_val, if_neg (by omega), if_pos (by cases b <;> simp [dirO] <;> omega)]
theorem lv_agV (b : Bool) (h : ℕ) (hh : h < 15) (c : Dev nD) : lv (agVc b h c) 0 = 10 * h + 2 := by
  show (if (agV b h).val < 5 then 0 else if ((agV b h).val - 5) % 30 < 15 then 0 else if (agV b h).val - 5 < 60 then 10 * (((agV b h).val - 5) % 15) + 2 else _) = _
  rw [agV_val, if_neg (by omega), if_neg (by cases b <;> simp [dirO] <;> omega), if_pos (by cases b <;> simp [dirO] <;> omega)]
  cases b <;> simp [dirO] <;> omega
theorem lv_acV (b : Bool) (h : ℕ) (hh : h < 15) (c : Dev nD) : lv (acVc b h c) 0 = 10 * h + 20 := by
  show (if (acV b h).val < 5 then 0 else if ((acV b h).val - 5) % 30 < 15 then 0 else if (acV b h).val - 5 < 60 then _ else 10 * (((acV b h).val - 5) % 15) + 20) = _
  rw [acV_val, if_neg (by omega), if_neg (by cases b <;> simp [dirO] <;> omega), if_neg (by cases b <;> simp [dirO] <;> omega)]
  cases b <;> simp [dirO] <;> omega
theorem lv_cr (b : Bool) (j : ℕ) (c : Dev nD) : lv (crc b j c) (j / 2) = 10 * j + 31 := by
  have h1 : (crS b j).val < 4 := by rw [crS_val]; have := Nat.mod_lt j (show 0 < 2 by decide); split <;> omega
  have h2 : (crS b j).val % 2 = j % 2 := by rw [crS_val]; split <;> omega
  show (if (crS b j).val < 4 then 10 * (2 * (j / 2) + (crS b j).val % 2) + 31 else 1) = _
  rw [if_pos h1, h2]; omega
theorem lv_bar (c : Dev nD) (i : ℕ) : lv (barc c) i = 1 := by
  dsimp only [lv]; exact if_neg (show ¬ (barS).val < 4 by decide)

/-- What device `c` owes the gather ring before its copy of hop `n`, -/
def dueAg (c : Dev nD) (b : Bool) (n : ℕ) : CellTallies nD τ sig ℕ := ∑ h ∈ Finset.Ico n 15, tallyAt (agVc b h (fwd b c)) 0 N1
/-- the ring of partial sums before its copy of hop `n`, -/
def dueAc (c : Dev nD) (b : Bool) (n : ℕ) : CellTallies nD τ sig ℕ := ∑ h ∈ Finset.Ico n 15, tallyAt (acVc b h (fwd b c)) 0 N2
/-- and its sender before it frees hop `g`'s slot. -/
def dueCr (c : Dev nD) (b : Bool) (g : ℕ) : CellTallies nD τ sig ℕ := ∑ j ∈ Finset.Ico g 13, tallyAt (crc b j (bwd b c)) (j / 2) 1

def due (c : Dev nD) (a a' m m' g g' : ℕ) : CellTallies nD τ sig ℕ :=
  dueAg c true a + dueAg c false a' + (dueAc c true m + dueAc c false m') + (dueCr c true g + dueCr c false g')

theorem ico_left {n N : ℕ} (h : n < N) : Finset.Ico n N = insert n (Finset.Ico (n + 1) N) := by
  ext x; simp only [Finset.mem_Ico, Finset.mem_insert]; omega
theorem ico_right {n N : ℕ} (h : n ≤ N) : Finset.Ico n (N + 1) = insert N (Finset.Ico n N) := by
  ext x; simp only [Finset.mem_Ico, Finset.mem_insert]; omega

theorem sum_pop {α : Type} [AddCommMonoid α] (f : ℕ → α) {n N : ℕ} (h : n < N) : ∑ i ∈ Finset.Ico n N, f i = ∑ i ∈ Finset.Ico (n + 1) N, f i + f n := by
  rw [ico_left h, Finset.sum_insert (by simp), add_comm]

section
variable (c : Dev nD) (a a' m m' g g' : ℕ)
theorem due_agR (h : a < 15) : due c a a' m m' g g' = due c (a + 1) a' m m' g g' + tallyAt (agVc true a (fwd true c)) 0 N1 := by
  unfold due; rw [show dueAg c true a = dueAg c true (a + 1) + _ from sum_pop _ h]; ac_rfl
theorem due_agL (h : a' < 15) : due c a a' m m' g g' = due c a (a' + 1) m m' g g' + tallyAt (agVc false a' (fwd false c)) 0 N1 := by
  unfold due; rw [show dueAg c false a' = dueAg c false (a' + 1) + _ from sum_pop _ h]; ac_rfl
theorem due_acR (h : m < 15) : due c a a' m m' g g' = due c a a' (m + 1) m' g g' + tallyAt (acVc true m (fwd true c)) 0 N2 := by
  unfold due; rw [show dueAc c true m = dueAc c true (m + 1) + _ from sum_pop _ h]; ac_rfl
theorem due_acL (h : m' < 15) : due c a a' m m' g g' = due c a a' m (m' + 1) g g' + tallyAt (acVc false m' (fwd false c)) 0 N2 := by
  unfold due; rw [show dueAc c false m' = dueAc c false (m' + 1) + _ from sum_pop _ h]; ac_rfl
theorem due_crR (h : g < 13) : due c a a' m m' g g' = due c a a' m m' (g + 1) g' + tallyAt (crc true g (bwd true c)) (g / 2) 1 := by
  unfold due; rw [show dueCr c true g = dueCr c true (g + 1) + _ from sum_pop _ h]; ac_rfl
theorem due_crL (h : g' < 13) : due c a a' m m' g g' = due c a a' m m' g (g' + 1) + tallyAt (crc false g' (bwd false c)) (g' / 2) 1 := by
  unfold due; rw [show dueCr c false g' = dueCr c false (g' + 1) + _ from sum_pop _ h]; ac_rfl
end

theorem due_zero (c : Dev nD) : due c 15 15 15 15 13 13 = 0 := by
  unfold due dueAg dueAc dueCr; simp

theorem sum_pos {f : ℕ → CellTallies nD τ sig ℕ} {s : Finset ℕ} {g : GSem nD τ sig} {i : ℕ} (h : 0 < (∑ k ∈ s, f k) g i) : ∃ k ∈ s, 0 < f k g i := by
  by_contra hn
  push Not at hn
  have : (∑ k ∈ s, f k) g i = 0 := by
    rw [Finset.sum_apply, Finsupp.finset_sum_apply]
    exact Finset.sum_eq_zero fun k hk => Nat.le_zero.mp (hn k hk)
  omega

theorem tally_pos {g g' : GSem nD τ sig} {i i' n : ℕ} (h : 0 < tallyAt g i n g' i') : g' = g ∧ i' = i := by
  rw [tallyAt_apply] at h
  by_contra hn
  rw [if_neg hn] at h
  exact Nat.lt_irrefl 0 h

theorem due_pos {c : Dev nD} {a a' m m' g g' : ℕ} {x : GSem nD τ sig} {i : ℕ} (h : 0 < due c a a' m m' g g' x i) :
    x.1.2 = .tc ∧ i < 7 ∧ ∃ j, (a ≤ j ∧ j < 15 ∧ lv x i = 10 * j + 2) ∨ (a' ≤ j ∧ j < 15 ∧ lv x i = 10 * j + 2)
      ∨ (m ≤ j ∧ j < 15 ∧ lv x i = 10 * j + 20) ∨ (m' ≤ j ∧ j < 15 ∧ lv x i = 10 * j + 20)
      ∨ (g ≤ j ∧ j < 13 ∧ lv x i = 10 * j + 31) ∨ (g' ≤ j ∧ j < 13 ∧ lv x i = 10 * j + 31) := by
  unfold due dueAg dueAc dueCr at h
  simp only [Pi.add_apply, Finsupp.add_apply] at h
  have key : ∀ {A B C D E G : ℕ}, 0 < A + B + (C + D) + (E + G) → 0 < A ∨ 0 < B ∨ 0 < C ∨ 0 < D ∨ 0 < E ∨ 0 < G := by omega
  rcases key h with h | h | h | h | h | h <;> obtain ⟨j, hj, h⟩ := sum_pos h <;> obtain ⟨rfl, rfl⟩ := tally_pos h <;> rw [Finset.mem_Ico] at hj
  · exact ⟨rfl, by decide, j, .inl ⟨hj.1, hj.2, lv_agV _ _ hj.2 _⟩⟩
  · exact ⟨rfl, by decide, j, .inr (.inl ⟨hj.1, hj.2, lv_agV _ _ hj.2 _⟩)⟩
  · exact ⟨rfl, by decide, j, .inr (.inr (.inl ⟨hj.1, hj.2, lv_acV _ _ hj.2 _⟩))⟩
  · exact ⟨rfl, by decide, j, .inr (.inr (.inr (.inl ⟨hj.1, hj.2, lv_acV _ _ hj.2 _⟩)))⟩
  · exact ⟨rfl, by omega, j, .inr (.inr (.inr (.inr (.inl ⟨hj.1, hj.2, lv_cr _ _ _⟩))))⟩
  · exact ⟨rfl, by omega, j, .inr (.inr (.inr (.inr (.inr ⟨hj.1, hj.2, lv_cr _ _ _⟩))))⟩

omit [FloatOps F] in
/-- A wait is allowed when its level is below everything still owed. -/
theorem mayWait_due {c : Dev nD} {s : SemLoc sig} {i l a a' m m' g g' : ℕ} (hl : lv (cell c s) i = l) (hi : i < 7)
    (ha : a < 15 → l < 10 * a + 2) (ha' : a' < 15 → l < 10 * a' + 2) (hm : m < 15 → l < 10 * m + 20) (hm' : m' < 15 → l < 10 * m' + 20)
    (hg : g < 13 → l < 10 * g + 31) (hg' : g' < 13 → l < 10 * g' + 31) :
    (levAts L lv : sProp 𝕄) ⊢ MayWait (c : Thread nD τ) s i (due c a a' m m' g g') :=
  MayOwe.of_cut (L := L) (lev := lv) l
    (fun p hp => by rw [Finset.mem_singleton.mp hp]; show i ∈ L (cell c s); rw [L_tc]; exact Finset.mem_range.mpr hi)
    (fun x u hx => by
      obtain ⟨h1, h2, -⟩ := due_pos hx
      unfold L; rw [if_pos h1]; exact Finset.mem_range.mpr h2)
    (fun p hp => by rw [Finset.mem_singleton.mp hp]; exact le_of_eq hl)
    (fun x u hx => by
      obtain ⟨-, -, j, h⟩ := due_pos hx
      rcases h with h | h | h | h | h | h <;> rw [h.2.2] <;> omega)

end Cert.Moe
-- ==== Proof.Steps.lean ====
/- One lemma per kind of operation: what it does to the state of its ring.

   `AG b n w v c` is device `c`'s part of direction `b`'s gather ring after `n` copies started, `w` arrivals
   waited for and `v` departures waited for; `AC b p n w v k g c` its part of the ring of partial sums after `p`
   were written out, `n` sent, `w` arrived, `v` departed, `k` freed slots waited for and `g` freed. -/
module

public import proofs.«01_k».proof.Proof.Ring

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

theorem pop {n N : ℕ} (h : n < N) (Φ : ℕ → sProp 𝕄) : bigSep (Finset.Ico n N) Φ = iprop(Φ n ∗ bigSep (Finset.Ico (n + 1) N) Φ) := by
  rw [ico_left h, bigSep_insert (by simp)]; rfl
theorem push {n N : ℕ} (h : n ≤ N) (Φ : ℕ → sProp 𝕄) : bigSep (Finset.Ico n (N + 1)) Φ = iprop(Φ N ∗ bigSep (Finset.Ico n N) Φ) := by
  rw [ico_right h, bigSep_insert (by simp)]; rfl

/-- The launch's indexing of a device's own semaphores and its barrier's. -/
abbrev kcell (p : Dev nD × Fin 125) : GSem nD τ sig :=
  cell p.1 (if h : p.2.val < 5 then .reg ⟨p.2.val, h⟩ else .dma ⟨p.2.val, p.2.isLt⟩)

section
variable (pk : Bool → Dev nD → S1x512x576.Idx → Elt F .bf16) (wt : Dev nD → S2048x1024.Idx → Elt F .bf16)

/-- What everyone knows of a semaphore: its protocol. -/
def known (g : GSem nD τ sig) : sProp 𝕄 := iprop(∃ κ, cellInv ER (rd pk wt) κ g ∗ reached ER g 0)
instance known_persistent (g : GSem nD τ sig) : BI.Persistent (known pk wt g) := by unfold known; infer_instance

/-- All of it, and the levels. -/
def recs : sProp 𝕄 := iprop(bigSep Finset.univ (fun p : Dev nD × Fin 125 => known pk wt (kcell p)) ∗ levAts L lv)
instance recs_persistent : BI.Persistent (recs pk wt) := by unfold recs; infer_instance

theorem recs_at (p : Dev nD × Fin 125) (g : GSem nD τ sig) (e : kcell p = g) : recs pk wt ⊢ known pk wt g := by
  subst e
  have h : bigSep Finset.univ (fun p : Dev nD × Fin 125 => known pk wt (kcell p)) ⊢ known pk wt (kcell p) := bigSep_elim (Finset.mem_univ p)
  unfold recs
  iintro ⟨H, -⟩
  iapply h; iexact H
theorem recs_dma (c : Dev nD) (q : DmaSem sig) (h : 5 ≤ q.val) : recs pk wt ⊢ known pk wt (cell c (.dma q)) :=
  recs_at pk wt (c, (⟨q.val, q.isLt⟩ : Fin 125)) _ (by unfold kcell; rw [dif_neg (show ¬ q.val < 5 by omega)])
theorem recs_reg (c : Dev nD) (q : Sem sig) : recs pk wt ⊢ known pk wt (cell c (.reg q)) :=
  have h5 : q.val < 5 := q.isLt
  recs_at pk wt (c, (⟨q.val, by omega⟩ : Fin 125)) _ (by unfold kcell; rw [dif_pos h5])
theorem recs_lev {P : sProp 𝕄} (h : (levAts L lv : sProp 𝕄) ⊢ P) : recs pk wt ⊢ P := by
  unfold recs; iintro ⟨-, H⟩; iapply h; iexact H

theorem agS_ge (b : Bool) (h : ℕ) : 5 ≤ (agS b h).val := by rw [agS_val]; omega
theorem agV_ge (b : Bool) (h : ℕ) : 5 ≤ (agV b h).val := by rw [agV_val]; omega
theorem acS_ge (b : Bool) (h : ℕ) : 5 ≤ (acS b h).val := by rw [acS_val]; omega
theorem acV_ge (b : Bool) (h : ℕ) : 5 ≤ (acV b h).val := by rw [acV_val]; omega

def owesW (c : Dev nD) (O : CellTallies nD τ sig ℕ) : sProp 𝕄 := iprop(∃ W, owes (c : Thread nD τ) O W)

def AG (b : Bool) (n w v : ℕ) (c : Dev nD) : sProp 𝕄 :=
  iprop(bigSep (Finset.Ico 0 v) (fun j => xs b j c fullShare (xv pk b j c))
    ∗ bigSep (Finset.Ico v n) (fun j => iprop(xs b j c fullShare.right (xv pk b j c) ∗ cred (tallyAt (agSc b j c) 0 N1)))
    ∗ bigSep (Finset.Ico n (w + 1)) (fun j => xs b j c fullShare (xv pk b j c))
    ∗ bigSep (Finset.Ico (n + 1) 16) (fun j => xsA (F := F) b j (fwd b c))
    ∗ bigSep (Finset.Ico n 15) (fun h => iprop(dutyTok ER (agSc b h c) 0 true ∗ dutyTok ER (agVc b h (fwd b c)) 0 true))
    ∗ bigSep (Finset.Ico w 15) (fun h => iprop(atPos ER (agVc b h c) 0 ∅ 0 ∗ cred (tallyAt (agVc b h c) 0 N1)))
    ∗ bigSep (Finset.Ico v 15) (fun h => atPos ER (agSc b h c) 0 ∅ 0)
    ∗ bigSep (Finset.Ico 0 w) (fun h => semVal (agVc b h c) 0)
    ∗ bigSep (Finset.Ico 0 v) (fun h => semVal (agSc b h c) 0))

def AC (b : Bool) (p n w v k g : ℕ) (c : Dev nD) : sProp 𝕄 :=
  iprop(bigSep (Finset.Ico p (v + 2)) (fun j => ssA (F := F) b j c)
    ∗ bigSep (Finset.Ico n p) (fun j => ss b j c (out pk wt b j c))
    ∗ bigSep (Finset.Ico v n) (fun j => cred (tallyAt (acSc b j c) 0 N2))
    ∗ bigSep (Finset.Ico n (k + 2)) (fun j => iprop(rsA (F := F) b j (fwd b c) ∗ reached ER (crc b j c) (j / 2)))
    ∗ bigSep (Finset.Ico n 15) (fun j => iprop(dutyTok ER (acSc b j c) 0 true ∗ dutyTok ER (acVc b j (fwd b c)) 0 true))
    ∗ bigSep (Finset.Ico g w) (fun j => iprop(rs b j c (out pk wt b j (bwd b c)) ∗ reached ER (crc b j (bwd b c)) (j / 2)))
    ∗ bigSep (Finset.Ico g 13) (fun j => dutyTok ER (crc b j (bwd b c)) (j / 2) true)
    ∗ bigSep (Finset.Ico w 15) (fun j => iprop(atPos ER (acVc b j c) 0 ∅ 0 ∗ cred (tallyAt (acVc b j c) 0 N2)))
    ∗ bigSep (Finset.Ico v 15) (fun j => atPos ER (acSc b j c) 0 ∅ 0)
    ∗ bigSep (Finset.Ico k (k + 2)) (fun j => atPos ER (crc b j c) (j / 2) ∅ 0)
    ∗ bigSep (Finset.Ico k 13) (fun j => cred (tallyAt (crc b j c) (j / 2) 1))
    ∗ bigSep (Finset.Ico 0 w) (fun j => semVal (acVc b j c) 0)
    ∗ bigSep (Finset.Ico 0 v) (fun j => semVal (acSc b j c) 0))

/-! ## The slots under the operations -/

/-- A copy between slots of one shape: what was read through the reshaped source is what the reshaped target holds. -/
theorem read_slice_reshape {κ : Kind} {sp : Space} {s s' : Shape} {e : EltTy} (v : View sig κ sp s e) (h : s'.numel = s.numel) (f : v.ty.Contents (Elt F)) :
    (v.reshape s' h).read (Elt F) f = fun x => v.read (Elt F) f (Shape.reshapeEquiv h x) := rfl

theorem read_copy {κ κ' : Kind} {sp sp' : Space} {s s' : Shape} {e : EltTy} (v : View sig κ sp s e) (u : View sig κ' sp' s e) (h h' : s'.numel = s.numel)
    (f : v.ty.Contents (Elt F)) (g : u.ty.Contents (Elt F)) :
    u.read (Elt F) ((u.reshape s' h').write (Elt F) g ((v.reshape s' h).read (Elt F) f) Finset.univ) = v.read (Elt F) f := by
  have h1 := View.read_write_univ (v := u.reshape s' h') (Val := Elt F) g ((v.reshape s' h).read (Elt F) f)
  funext x
  have h2 := congrFun h1 ((Shape.reshapeEquiv h).symm x)
  simp only [read_slice_reshape, Equiv.apply_symm_apply] at h2
  exact h2

theorem xv_fwd (b : Bool) (n : ℕ) (c : Dev nD) : xv pk b (n + 1) (fwd b c) = xv pk b n c := by unfold xv; rw [src_fwd]

/-- A program's obligation on device `c`. -/
abbrev WP (c : Dev nD) (p : TC F PUnit) (Q : PUnit.{1} → sProp 𝕄) : sProp 𝕄 :=
  wp frame (wpE (defs₀ (F := F)) 𝒱₀ (c : Thread nD τ) none) Set.univ p Q

/-- Waiting for a copy's whole amount ends its semaphore's one round, and closes it. -/
theorem wait_dma (c : Dev nD) (q : DmaSem sig) (hq : 5 ≤ q.val) (N : ℕ) (hex : (rd pk wt).expect (cell c (.dma q)) 0 = N) (P : sProp 𝕄)
    (hP : (rd pk wt).payload (cell c (.dma q)) 0 true = P) {O : CellTallies nD τ sig ℕ} (hmw : (levAts L lv : sProp 𝕄) ⊢ MayWait (c : Thread nD τ) (.dma q) 0 O)
    {sp sp' : Space} {s s' : Shape} {e e' : EltTy} {src : Memref sig .tc sp s e} {dst : Memref sig .tc sp' s' e'} {hsrc : src.view.WordExact} {hdst : dst.view.WordExact}
    (hN : dst.view.dmaCredit = N) (K : TC F PUnit) {Q : PUnit.{1} → sProp 𝕄} :
    iprop(recs pk wt ∗ cred (tallyAt (cell c (.dma q)) 0 N) ∗ atPos ER (cell c (.dma q)) 0 ∅ 0 ∗ owesW c O)
      ⊢ iprop(((P ∗ semVal (cell c (.dma q)) 0 ∗ owesW c O) -∗ WP c K Q) -∗ WP c (.op (.waitDma2 q src dst hsrc hdst) fun _ => K) Q) := by
  unfold owesW
  iintro ⟨#HR, Hc, Hat, ⟨%W, HO⟩⟩ Hk
  ihave #H1 := (recs_dma pk wt c q hq) $$ HR
  unfold known
  icases H1 with ⟨%κ, #HI, #HR1⟩
  iapply (Rounds.wp_wait_rest_token 𝒱₀ ER (rd pk wt) (c : Thread nD τ) none (κ := κ)
      (wpE_waitDma2_eq 𝒱₀ (c : Thread nD τ) none Set.univ) (Set.mem_univ _) 0 (O := O) (W := W) (R := 0) (m := 0) (T := ∅)
      (by rw [Nat.zero_add, hN, hex])) $$ [Hc HO Hat]
  · isplitr; · iexact HI
    isplitl [Hc]; · rw [hN]; iexact Hc
    isplitl [HO]; · iexact HO
    isplitr; · iapply (recs_lev pk wt hmw); iexact HR
    iexact Hat
  iintro ⟨HO, Hat, -, Hpay⟩
  ihave Hp := (Entails.of_eq ((rest_dma pk wt c q).trans hP)) $$ Hpay
  imod (Rounds.cell_close ER (rd pk wt) (Set.mem_univ κ) (fun h => h) (R := 0 + 1) (fun r hr => duties_dma_later pk wt c q r hr)) $$ [Hat] with Hz
  · isplitr; · iexact HI
    iexact Hat
  iapply Hk
  isplitl [Hp]; · iexact Hp
  isplitl [Hz]; · iexact Hz
  iexists _; iexact HO

/-! ## The gather ring -/

theorem agSend_step (c : Dev nD) (b : Bool) (n w v : ℕ) (hn : n < 15) (hv : v ≤ n) (hw : n ≤ w) {O₀ : CellTallies nD τ sig ℕ}
    (O : CellTallies nD τ sig ℕ) (hO : O₀ = O + tallyAt (agVc b n (fwd b c)) 0 N1) (K : TC F PUnit) {Q : PUnit.{1} → sProp 𝕄} :
    iprop(recs pk wt ∗ AG pk b n w v c ∗ owesW c O₀)
      ⊢ iprop(((AG pk b (n + 1) w v c ∗ owesW c O) -∗ WP c K Q) -∗ WP c (agSend c b n K) Q) := by
  unfold AG owesW
  rw [pop (show n < w + 1 by omega), pop (show n + 1 < 16 by omega), pop hn, push hv]
  iintro ⟨#HR, ⟨A1, A2, ⟨Hx, A3⟩, ⟨Hr, A4⟩, ⟨⟨Ht1, Ht2⟩, A5⟩, A6, A7, A8, A9⟩, ⟨%W, HO⟩⟩ Hk
  ihave #H1 := (recs_dma pk wt c (agS b n) (agS_ge b n)) $$ HR
  ihave #H2 := (recs_dma pk wt (fwd b c) (agV b n) (agV_ge b n)) $$ HR
  unfold known
  icases H1 with ⟨%κ₁, #HI1, #HR1⟩
  icases H2 with ⟨%κ₂, #HI2, #HR2⟩
  unfold xsA
  icases Hr with ⟨%X0, Hr⟩
  unfold xs
  ihave Hx2 := (owns_halves (c : Thread nD τ) _ fullShare (xv pk b n c)).1 $$ Hx
  icases Hx2 with ⟨HxL, HxR⟩
  unfold owns
  icases HxL with ⟨%fl, %hfl, HxL⟩
  icases Hr with ⟨%fr, %hfr, Hr⟩
  iapply (Rounds.wp_send_pointsTo 𝒱₀ ER (rd pk wt) (c : Thread nD τ) none (c' := (fwd b c : Thread nD τ)) (src := xslot b n) (dst := xslot b (n + 1)) (sS := .dma (agS b n)) (sem := .dma (agV b n))  (κ₁ := κ₁) (κ₂ := κ₂) (r₁ := 0) (r₂ := 0) (d₁ := true) (d₂ := true)
    (fs := fl) (fd := fr) (q := fullShare.left) (by rw [duties_dma]; exact Finset.mem_singleton_self _) (by rw [duties_dma]; exact Finset.mem_singleton_self _) 0 0 N1
    (xslot_credit b (n + 1)) (amount_agS pk wt b n c true) (amount_agV pk wt b n (fwd b c) true) O hO (W := W)
    (by
      rw [pay_agS pk wt b n hn]; unfold payAgS xs owns
      iintro H; iexists fl
      isplitr; · ipureintro; exact hfl
      rw [View.set_reshape]
      iexact H)
    (by
      rw [pay_agV pk wt b n hn]; unfold payAgV xs owns
      iintro H; iexists _
      isplitr; rotate_left
      · rw [View.set_reshape]; iexact H
      ipureintro
      rw [xv_fwd, ← hfl]
      exact read_copy _ _ _ _ _ _)) $$ [HxL Hr HO Ht1 Ht2]
  · isplitr; · iexact HI1
    isplitr; · iexact HI2
    isplitl [HxL]; · rw [View.set_reshape]; iexact HxL
    isplitl [Hr]; · rw [View.set_reshape]; iexact Hr
    isplitl [HO]; · iexact HO
    isplitl [Ht1]; · iexact Ht1
    isplitr; · iexact HR1
    isplitl [Ht2]; · iexact Ht2
    iexact HR2
  iintro ⟨Hc, HO⟩
  iapply Hk
  isplitr [HO]; rotate_left
  · iexists W; iexact HO
  isplitl [A1]; · iexact A1
  isplitl [A2 HxR Hc]
  · isplitr [A2]; · isplitl [HxR]; · iexact HxR
                    iexact Hc
    iexact A2
  isplitl [A3]; · iexact A3
  isplitl [A4]; · iexact A4
  isplitl [A5]; · iexact A5
  isplitl [A6]; · iexact A6
  isplitl [A7]; · iexact A7
  isplitl [A8] <;> iassumption

theorem agRecv_step (c : Dev nD) (b : Bool) (n w v : ℕ) (hw : w < 15) (hn : n ≤ w + 1) {O : CellTallies nD τ sig ℕ}
    (hmw : (levAts L lv : sProp 𝕄) ⊢ MayWait (c : Thread nD τ) (.dma (agV b w)) 0 O) (K : TC F PUnit) {Q : PUnit.{1} → sProp 𝕄} :
    iprop(recs pk wt ∗ AG pk b n w v c ∗ owesW c O)
      ⊢ iprop(((AG pk b n (w + 1) v c ∗ owesW c O) -∗ WP c K Q) -∗ WP c (agRecv b w K) Q) := by
  unfold AG
  rw [pop hw, push hn, push (Nat.zero_le w)]
  iintro ⟨#HR, ⟨A1, A2, A3, A4, A5, ⟨⟨Hat, Hc⟩, A6⟩, A7, A8, A9⟩, HO⟩ Hk
  iapply (wait_dma pk wt c (agV b w) (agV_ge b w) N1 (expect_agV pk wt b w c) _ (pay_agV pk wt b w hw c) hmw (xslot_credit b (w + 1)) K) $$ [Hat Hc HO]
  · isplitr; · iexact HR
    isplitl [Hc]; · iexact Hc
    isplitl [Hat]; · iexact Hat
    iexact HO
  iintro ⟨Hp, Hz, HO⟩
  iapply Hk
  isplitr [HO]; rotate_left
  · iexact HO
  isplitl [A1]; · iexact A1
  isplitl [A2]; · iexact A2
  isplitl [A3 Hp]
  · isplitl [Hp]; · unfold payAgV; iexact Hp
    iexact A3
  isplitl [A4]; · iexact A4
  isplitl [A5]; · iexact A5
  isplitl [A6]; · iexact A6
  isplitl [A7]; · iexact A7
  isplitl [A8 Hz]
  · isplitl [Hz] <;> iassumption
  iexact A9

theorem agSent_step (c : Dev nD) (b : Bool) (n w v : ℕ) (hv : v < n) (hv' : v < 15) {O : CellTallies nD τ sig ℕ}
    (hmw : (levAts L lv : sProp 𝕄) ⊢ MayWait (c : Thread nD τ) (.dma (agS b v)) 0 O) (K : TC F PUnit) {Q : PUnit.{1} → sProp 𝕄} :
    iprop(recs pk wt ∗ AG pk b n w v c ∗ owesW c O)
      ⊢ iprop(((AG pk b n w (v + 1) c ∗ owesW c O) -∗ WP c K Q) -∗ WP c (agSent b v K) Q) := by
  unfold AG
  rw [pop hv, pop hv', push (Nat.zero_le v), push (Nat.zero_le v)]
  iintro ⟨#HR, ⟨A1, ⟨⟨Hx, Hc⟩, A2⟩, A3, A4, A5, A6, ⟨Hat, A7⟩, A8, A9⟩, HO⟩ Hk
  iapply (wait_dma pk wt c (agS b v) (agS_ge b v) N1 (expect_agS pk wt b v c) _ (pay_agS pk wt b v hv' c) hmw (xslot_credit b v) K) $$ [Hat Hc HO]
  · isplitr; · iexact HR
    isplitl [Hc]; · iexact Hc
    isplitl [Hat]; · iexact Hat
    iexact HO
  iintro ⟨Hp, Hz, HO⟩
  iapply Hk
  isplitr [HO]; rotate_left
  · iexact HO
  isplitl [A1 Hp Hx]
  · isplitl [Hp Hx]
    · unfold payAgS xs
      iapply (owns_halves (c : Thread nD τ) _ fullShare (xv pk b v c)).2
      isplitl [Hp] <;> iassumption
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [Hz] <;> iassumption

/-- A load of a slot reads what it holds. -/
theorem load_xs (c : Dev nD) (b : Bool) (j : ℕ) (q : PosShare TreeShare) (X : S1x512x576.Idx → Elt F .bf16) {hl : (xw b).view.LoadsAt (xrect j).toLoadRect}
    (K : (S1x512x576.Idx → Elt F .bf16) → TC F PUnit) {Q : PUnit.{1} → sProp 𝕄} :
    xs b j c q X ⊢ iprop((xs b j c q X -∗ WP c (K X) Q) -∗ WP c (.op (.load (xw b) (xrect j).toLoadRect hl) K) Q) := by
  unfold xs owns
  iintro ⟨%f, %hf, H⟩ Hk
  iapply (wp_load_rect 𝒱₀ (c : Thread nD τ) none Set.univ (m := xw b) (r := xrect j) (S := ((xw b).slice (xrect j) (fun _ => rfl)).view.set) (Finset.Subset.refl _)) $$ H
  iintro H
  rw [show ((xw b).access (xrect j)).read (Elt F) f = X from hf]
  iapply Hk
  iexists f
  isplitr; · ipureintro; exact hf
  iexact H

theorem load_rs (c : Dev nD) (b : Bool) (j : ℕ) (Y : S1x512x1024.Idx → Elt F .bf16) {hl : (rbuf b).view.LoadsAt (brect j).toLoadRect}
    (K : (S1x512x1024.Idx → Elt F .bf16) → TC F PUnit) {Q : PUnit.{1} → sProp 𝕄} :
    rs b j c Y ⊢ iprop((rs b j c Y -∗ WP c (K Y) Q) -∗ WP c (.op (.load (rbuf b) (brect j).toLoadRect hl) K) Q) := by
  unfold rs owns
  iintro ⟨%f, %hf, H⟩ Hk
  iapply (wp_load_rect 𝒱₀ (c : Thread nD τ) none Set.univ (m := rbuf b) (r := brect j) (S := ((rbuf b).slice (brect j) (fun _ => rfl)).view.set) (Finset.Subset.refl _)) $$ H
  iintro H
  rw [show ((rbuf b).access (brect j)).read (Elt F) f = Y from hf]
  iapply Hk
  iexists f
  isplitr; · ipureintro; exact hf
  iexact H

/-- The weights, reshaped, in their buffer. -/
def wts (c : Dev nD) : sProp 𝕄 := (((c : Thread nD τ).loc cc0_scratch2) ↦{fullShare} (wt c : Buf (Elt F) ((c : Thread nD τ).loc cc0_scratch2)) : sProp 𝕄)

theorem hz2 : (![0, 0] : Fin 2 → Nat) = fun _ => 0 := funext fun a => by fin_cases a <;> rfl

theorem loadC_step (c : Dev nD) (b : Bool) (h : ℕ) (q : PosShare TreeShare) (X : S1x512x576.Idx → Elt F .bf16) (K : FVec F S512x1024 .f32 → TC F PUnit) {Q : PUnit.{1} → sProp 𝕄} :
    iprop(xs b h c q X ∗ wts wt c)
      ⊢ iprop(((xs b h c q X ∗ wts wt c) -∗ WP c (K (contrib (meW c) X (wt c))) Q) -∗ WP c (loadC c b h K) Q) := by
  unfold wts
  iintro ⟨Hx, Hw⟩ Hk
  iapply (load_xs c b h q X _) $$ Hx
  iintro Hx
  iapply (wp_load 𝒱₀ (c : Thread nD τ) none Set.univ (m := ewb) (Finset.subset_univ _)) $$ Hw
  iintro Hw
  rw [show (ewb.view.readAt (Elt F) (Rect.unit (s := S2048x1024) ![0, 0] S2048x1024.size inb_S2048x1024_S2048x1024_0_0).toLoadRect (wt c)) = wt c
    from Memref.readAt_unit_zero (Elt F) cc0_scratch2 hz2 _ _]
  iapply Hk
  isplitl [Hx] <;> iassumption

/-- The contribution of a slot, whoever else is reading it. -/
theorem loadC_AG (c : Dev nD) (b : Bool) (h n w v : ℕ)
    (hsl : AG pk b n w v c ⊢ iprop(∃ q, xs b h c q (xv pk b h c) ∗ (xs b h c q (xv pk b h c) -∗ AG pk b n w v c)))
    (K : FVec F S512x1024 .f32 → TC F PUnit) {Q : PUnit.{1} → sProp 𝕄} :
    iprop(AG pk b n w v c ∗ wts wt c)
      ⊢ iprop(((AG pk b n w v c ∗ wts wt c) -∗ WP c (K (con pk wt b h c)) Q) -∗ WP c (loadC c b h K) Q) := by
  iintro ⟨HA, Hw⟩ Hk
  ihave H := hsl $$ HA
  icases H with ⟨%q, Hx, Hb⟩
  iapply (loadC_step wt c b h q _ K) $$ [Hx Hw]
  · isplitl [Hx] <;> iassumption
  iintro ⟨Hx, Hw⟩
  unfold con
  iapply Hk
  isplitr [Hw]
  · iapply Hb; iexact Hx
  iexact Hw

/-! ## The ring of partial sums -/

theorem putS_step (c : Dev nD) (b : Bool) (p n w v k g : ℕ) (hp : p < v + 2) (hn : n ≤ p) (K : TC F PUnit) {Q : PUnit.{1} → sProp 𝕄} :
    AC pk wt b p n w v k g c
      ⊢ iprop((AC pk wt b (p + 1) n w v k g c -∗ WP c K Q) -∗ WP c (putS b p (acc pk wt b p c) K) Q) := by
  unfold AC
  rw [pop hp, push hn]
  iintro ⟨⟨Hs, A1⟩, A2, A3⟩ Hk
  unfold ssA
  icases Hs with ⟨%Y, Hs⟩
  unfold ss owns
  icases Hs with ⟨%f, %hf, H⟩
  iapply (wp_load_rect 𝒱₀ (c : Thread nD τ) none Set.univ (m := sbuf b) (r := brect p) (S := ((sbuf b).slice (brect p) (fun _ => rfl)).view.set) (Finset.Subset.refl _)) $$ H
  iintro H
  iapply (wp_store 𝒱₀ (c : Thread nD τ) none Set.univ (m := sbuf b) (r := brect p) (Mk := Finset.univ) (S := ((sbuf b).slice (brect p) (fun _ => rfl)).view.set) (Finset.Subset.refl _)) $$ H
  iintro H
  iapply Hk
  isplitl [A1]; · iexact A1
  isplitl [A2 H]
  · isplitl [H]
    · iexists _; isplitr; rotate_left
      · iexact H
      ipureintro
      exact View.read_write_univ _ _
    iexact A2
  iexact A3

theorem acSend_step (c : Dev nD) (b : Bool) (p n w v k g : ℕ) (hn : n < 15) (hp : n < p) (hk : n < k + 2) (hv : v ≤ n) {O₀ : CellTallies nD τ sig ℕ}
    (O : CellTallies nD τ sig ℕ) (hO : O₀ = O + tallyAt (acVc b n (fwd b c)) 0 N2) (K : TC F PUnit) {Q : PUnit.{1} → sProp 𝕄} :
    iprop(recs pk wt ∗ AC pk wt b p n w v k g c ∗ owesW c O₀)
      ⊢ iprop(((AC pk wt b p (n + 1) w v k g c ∗ owesW c O) -∗ WP c K Q) -∗ WP c (acSend c b n K) Q) := by
  unfold AC owesW
  rw [pop hp, pop hk, pop hn, push hv]
  iintro ⟨#HR, ⟨A1, ⟨Hs, A2⟩, A3, ⟨⟨Hr, #Hre⟩, A4⟩, ⟨⟨Ht1, Ht2⟩, A5⟩, A6⟩, ⟨%W, HO⟩⟩ Hk
  ihave #H1 := (recs_dma pk wt c (acS b n) (acS_ge b n)) $$ HR
  ihave #H2 := (recs_dma pk wt (fwd b c) (acV b n) (acV_ge b n)) $$ HR
  unfold known
  icases H1 with ⟨%κ₁, #HI1, #HR1⟩
  icases H2 with ⟨%κ₂, #HI2, #HR2⟩
  unfold rsA
  icases Hr with ⟨%X0, Hr⟩
  unfold rs ss owns
  icases Hs with ⟨%fl, %hfl, Hs⟩
  icases Hr with ⟨%fr, %hfr, Hr⟩
  iapply (Rounds.wp_send_pointsTo_with 𝒱₀ ER (rd pk wt) (c : Thread nD τ) none (c' := (fwd b c : Thread nD τ)) (src := sslot b n) (dst := rslot b n) (sS := .dma (acS b n)) (sem := .dma (acV b n)) (κ₁ := κ₁) (κ₂ := κ₂) (r₁ := 0) (r₂ := 0) (d₁ := true) (d₂ := true)
    (fs := fl) (fd := fr) (F := iprop(reached ER (crc b n c) (n / 2))) (q := fullShare) (by rw [duties_dma]; exact Finset.mem_singleton_self _) (by rw [duties_dma]; exact Finset.mem_singleton_self _) 0 0 N2
    (rslot_credit b n) (amount_acS pk wt b n c true) (amount_acV pk wt b n (fwd b c) true) O hO (W := W)
    (by
      rw [pay_acS pk wt b n hn]; unfold payAcS ssA ss owns
      iintro H; iexists _, fl
      isplitr; · ipureintro; exact rfl
      rw [View.set_reshape]
      iexact H)
    (by
      rw [pay_acV pk wt b n hn]; unfold payAcV rs owns
      rw [bwd_fwd]
      iintro ⟨H, #Hre⟩
      isplitl [H]
      · iexists _
        isplitr; rotate_left
        · rw [View.set_reshape]; iexact H
        ipureintro
        rw [← hfl]
        exact read_copy _ _ _ _ _ _
      iexact Hre)) $$ [Hs Hr HO Ht1 Ht2]
  · isplitr; · iexact HI1
    isplitr; · iexact HI2
    isplitl [Hs]; · rw [View.set_reshape]; iexact Hs
    isplitl [Hr]
    · isplitl [Hr]; · rw [View.set_reshape]; iexact Hr
      iexact Hre
    isplitl [HO]; · iexact HO
    isplitl [Ht1]; · iexact Ht1
    isplitr; · iexact HR1
    isplitl [Ht2]; · iexact Ht2
    iexact HR2
  iintro ⟨Hc, HO⟩
  iapply Hk
  isplitr [HO]; rotate_left
  · iexists W; iexact HO
  isplitl [A1]; · iexact A1
  isplitl [A2]; · iexact A2
  isplitl [A3 Hc]
  · isplitl [Hc] <;> iassumption
  isplitl [A4]; · iexact A4
  isplitl [A5]; · iexact A5
  iexact A6

theorem acRecv_step (c : Dev nD) (b : Bool) (p n w v k g : ℕ) (hw : w < 15) (hg : g ≤ w) {O : CellTallies nD τ sig ℕ}
    (hmw : (levAts L lv : sProp 𝕄) ⊢ MayWait (c : Thread nD τ) (.dma (acV b w)) 0 O) (K : FVec F S512x1024 .f32 → TC F PUnit) {Q : PUnit.{1} → sProp 𝕄} :
    iprop(recs pk wt ∗ AC pk wt b p n w v k g c ∗ owesW c O)
      ⊢ iprop(((AC pk wt b p n (w + 1) v k g c ∗ owesW c O) -∗ WP c (K (acc pk wt b (w + 1) c)) Q) -∗ WP c (acRecv b w (con pk wt b (w + 2) c) K) Q) := by
  unfold AC
  rw [pop hw, push hg, push (Nat.zero_le w)]
  iintro ⟨#HR, ⟨A1, A2, A3, A4, A5, A6, A7, ⟨⟨Hat, Hc⟩, A8⟩, A9, A10, A11, A12, A13⟩, HO⟩ Hk
  iapply (wait_dma pk wt c (acV b w) (acV_ge b w) N2 (expect_acV pk wt b w c) _ (pay_acV pk wt b w hw c) hmw (rslot_credit b w) _) $$ [Hat Hc HO]
  · isplitr; · iexact HR
    isplitl [Hc]; · iexact Hc
    isplitl [Hat]; · iexact Hat
    iexact HO
  unfold payAcV
  iintro ⟨⟨Hr, #Hre⟩, Hz, HO⟩
  iapply (load_rs c b w (out pk wt b w (bwd b c)) _) $$ Hr
  iintro Hr
  iapply Hk
  isplitr [HO]; rotate_left
  · iexact HO
  isplitl [A1]; · iexact A1
  isplitl [A2]; · iexact A2
  isplitl [A3]; · iexact A3
  isplitl [A4]; · iexact A4
  isplitl [A5]; · iexact A5
  isplitl [A6 Hr]
  · isplitl [Hr]
    · isplitl [Hr]; · iexact Hr
      iexact Hre
    iexact A6
  isplitl [A7]; · iexact A7
  isplitl [A8]; · iexact A8
  isplitl [A9]; · iexact A9
  isplitl [A10]; · iexact A10
  isplitl [A11]; · iexact A11
  isplitl [A12 Hz]
  · isplitl [Hz] <;> iassumption
  iexact A13

theorem acSent_step (c : Dev nD) (b : Bool) (p n w v k g : ℕ) (hv : v < n) (hv' : v < 15) (hp : p ≤ v + 2) {O : CellTallies nD τ sig ℕ}
    (hmw : (levAts L lv : sProp 𝕄) ⊢ MayWait (c : Thread nD τ) (.dma (acS b v)) 0 O) (K : TC F PUnit) {Q : PUnit.{1} → sProp 𝕄} :
    iprop(recs pk wt ∗ AC pk wt b p n w v k g c ∗ owesW c O)
      ⊢ iprop(((AC pk wt b p n w (v + 1) k g c ∗ owesW c O) -∗ WP c K Q) -∗ WP c (acSent b v K) Q) := by
  unfold AC
  rw [pop hv, pop hv', show v + 1 + 2 = v + 2 + 1 from rfl, push hp, push (Nat.zero_le v)]
  iintro ⟨#HR, ⟨A1, A2, ⟨Hc, A3⟩, A4, A5, A6, A7, A8, ⟨Hat, A9⟩, A10, A11, A12, A13⟩, HO⟩ Hk
  iapply (wait_dma pk wt c (acS b v) (acS_ge b v) N2 (expect_acS pk wt b v c) _ (pay_acS pk wt b v hv' c) hmw (sslot_credit b v) K) $$ [Hat Hc HO]
  · isplitr; · iexact HR
    isplitl [Hc]; · iexact Hc
    isplitl [Hat]; · iexact Hat
    iexact HO
  iintro ⟨Hp, Hz, HO⟩
  iapply Hk
  isplitr [HO]; rotate_left
  · iexact HO
  isplitl [A1 Hp]
  · isplitl [Hp]
    · iapply (Entails.of_eq (show payAcS (F := F) b v c = ssA b (v + 2) c by
        unfold payAcS; rw [← ssA_mod b v, ← ssA_mod b (v + 2), Nat.add_mod_right]))
      iexact Hp
    iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [Hz] <;> iassumption

theorem free_step (c : Dev nD) (b : Bool) (p n w v k g : ℕ) (hg : g < 13) (hw : g < w) {O₀ : CellTallies nD τ sig ℕ}
    (O : CellTallies nD τ sig ℕ) (hO : O₀ = O + tallyAt (crc b g (bwd b c)) (g / 2) 1) (K : TC F PUnit) {Q : PUnit.{1} → sProp 𝕄} :
    iprop(recs pk wt ∗ AC pk wt b p n w v k g c ∗ owesW c O₀)
      ⊢ iprop(((AC pk wt b p n w v k (g + 1) c ∗ owesW c O) -∗ WP c K Q) -∗ WP c (free c b g K) Q) := by
  unfold AC owesW
  rw [pop hw, pop hg]
  iintro ⟨#HR, ⟨A1, A2, A3, A4, A5, ⟨⟨Hr, #Hre⟩, A6⟩, ⟨Ht, A7⟩, A8⟩, ⟨%W, HO⟩⟩ Hk
  ihave #H1 := (recs_reg pk wt (bwd b c) (crS b g)) $$ HR
  unfold known
  icases H1 with ⟨%κ, #HI, #HR1⟩
  iapply (Rounds.wp_signal 𝒱₀ ER (rd pk wt) (c : Thread nD τ) none (dst := (bwd b c : Thread nD τ)) (sem := crS b g) (κ := κ) (r := g / 2)
      (d := true) (by rw [duties_cr pk wt b g (g / 2) (bwd b c) (by omega)]; exact Finset.mem_singleton_self _) ((amount_reg pk wt (bwd b c) (crS b g) (g / 2) true).trans (by decide)) (g / 2) O hO (W := W))
    $$ [HO Ht Hr]
  · isplitr; · iexact HI
    isplitl [HO]; · iexact HO
    isplitl [Ht]; · iexact Ht
    isplitl [Hr]
    · rw [pay_cr, fwd_bwd]; unfold rsA
      iexists _; iexact Hr
    iexact Hre
  iintro HO
  iapply Hk
  isplitr [HO]; rotate_left
  · iexists W; iexact HO
  isplitl [A1]; · iexact A1
  isplitl [A2]; · iexact A2
  isplitl [A3]; · iexact A3
  isplitl [A4]; · iexact A4
  isplitl [A5]; · iexact A5
  isplitl [A6]; · iexact A6
  isplitl [A7]; · iexact A7
  iexact A8

theorem freed_step (c : Dev nD) (b : Bool) (p n w v k g : ℕ) (hk : k < 13) (hn : n ≤ k + 2) {O : CellTallies nD τ sig ℕ}
    (hmw : (levAts L lv : sProp 𝕄) ⊢ MayWait (c : Thread nD τ) (.reg (crS b k)) (k / 2) O) (K : TC F PUnit) {Q : PUnit.{1} → sProp 𝕄} :
    iprop(recs pk wt ∗ AC pk wt b p n w v k g c ∗ owesW c O)
      ⊢ iprop(((AC pk wt b p n w v (k + 1) g c ∗ owesW c O) -∗ WP c K Q) -∗ WP c (freed b k K) Q) := by
  unfold AC owesW
  rw [pop hk, pop (show k < k + 2 by omega), show k + 1 + 2 = k + 2 + 1 from rfl, push hn, push (show k + 1 ≤ k + 2 by omega)]
  iintro ⟨#HR, ⟨A1, A2, A3, A4, A5, A6, A7, A8, A9, ⟨Hat, A10⟩, ⟨Hc, A11⟩, A12⟩, ⟨%W, HO⟩⟩ Hk
  ihave #H1 := (recs_reg pk wt c (crS b k)) $$ HR
  unfold known
  icases H1 with ⟨%κ, #HI, #HR1⟩
  iapply (Rounds.wp_wait_rest_token 𝒱₀ ER (rd pk wt) (c : Thread nD τ) none (κ := κ)
      (wpE_semWait_eq 𝒱₀ (c : Thread nD τ) none Set.univ) (Set.mem_univ _) (k / 2) (O := O) (W := W) (R := k / 2) (m := 0) (T := ∅)
      (by rw [expect_cr pk wt b k (k / 2) c (by omega)]; decide)) $$ [Hc HO Hat]
  · isplitr; · iexact HI
    isplitl [Hc]; · iexact Hc
    isplitl [HO]; · iexact HO
    isplitr; · iapply (recs_lev pk wt hmw); iexact HR
    iexact Hat
  iintro ⟨HO, Hat, #Hre, Hpay⟩
  ihave Hp := (Entails.of_eq (rest_cr pk wt b k (k / 2) c (by omega))) $$ Hpay
  have hc : crc b (k + 2) c = crc b k c := congrArg (fun q => cell c (.reg q)) (show crS b (k + 2) = crS b k by rw [← crS_mod b k, ← crS_mod b (k + 2), Nat.add_mod_right])
  have hr : (k + 2) / 2 = k / 2 + 1 := by omega
  have hs : rsA (F := F) b (k + 2) (fwd b c) = rsA b k (fwd b c) := by rw [← rsA_mod b k, ← rsA_mod b (k + 2), Nat.add_mod_right]
  rw [hc, hr, hs]
  iapply Hk
  isplitr [HO]; rotate_left
  · iexists _; iexact HO
  isplitl [A1]; · iexact A1
  isplitl [A2]; · iexact A2
  isplitl [A3]; · iexact A3
  isplitl [A4 Hp]
  · isplitl [Hp]
    · isplitl [Hp]; · iexact Hp
      iexact Hre
    iexact A4
  isplitl [A5]; · iexact A5
  isplitl [A6]; · iexact A6
  isplitl [A7]; · iexact A7
  isplitl [A8]; · iexact A8
  isplitl [A9]; · iexact A9
  isplitl [A10 Hat]
  · isplitl [Hat] <;> iassumption
  isplitl [A11]; · iexact A11
  iexact A12

end

end Cert.Moe
-- ==== Proof.Hops.lean ====
/- The hops of both rings together, from the lemmas of single operations: `Ring` is a device's state between two
   groups of operations, the same counts in both directions. -/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (pk : Bool → Dev nD → S1x512x576.Idx → Elt F .bf16) (wt : Dev nD → S2048x1024.Idx → Elt F .bf16)

theorem may (c : Dev nD) (n m g : ℕ) {s : SemLoc sig} {i l : ℕ} (hl : lv (cell c s) i = l) (hi : i < 7)
    (h1 : n < 15 → l < 10 * n + 2) (h2 : m < 15 → l < 10 * m + 20) (h3 : g < 13 → l < 10 * g + 31) :
    (levAts L lv : sProp 𝕄) ⊢ MayWait (c : Thread nD τ) s i (due c n n m m g g) := mayWait_due hl hi h1 h1 h2 h2 h3 h3

/-- Device `c` between two groups of operations. -/
def Ring (c : Dev nD) (n w v p m x y k g : ℕ) : sProp 𝕄 :=
  iprop(recs pk wt ∗ wts wt c ∗ AG pk true n w v c ∗ AG pk false n w v c ∗ AC pk wt true p m x y k g c ∗ AC pk wt false p m x y k g c
    ∗ owesW c (due c n n m m g g))

variable (c : Dev nD) {n w v p m x y k g : ℕ}

theorem opE_step (hw : w < 15) (hn : n ≤ w + 1) (h1 : n < 15 → w < n) (h2 : m < 15 → w < m + 2) (h3 : g < 13 → w < g + 3) (K : TC F PUnit) {Q : PUnit.{1} → sProp 𝕄} :
    Ring pk wt c n w v p m x y k g ⊢ iprop((Ring pk wt c n (w + 1) v p m x y k g -∗ WP c K Q) -∗ WP c (opE w K) Q) := by
  unfold Ring
  iintro ⟨#HR, Hw, A1, A2, A3, A4, HO⟩ Hk
  iapply (agRecv_step pk wt c true n w v hw hn (may c n m g (lv_agV true w hw c) (by omega) (by omega) (by omega) (by omega)) _) $$ [A1 HO]
  · isplitr; · iexact HR
    isplitl [A1] <;> iassumption
  iintro ⟨A1, HO⟩
  iapply (agRecv_step pk wt c false n w v hw hn (may c n m g (lv_agV false w hw c) (by omega) (by omega) (by omega) (by omega)) _) $$ [A2 HO]
  · isplitr; · iexact HR
    isplitl [A2] <;> iassumption
  iintro ⟨A2, HO⟩
  iapply Hk
  isplitr; · iexact HR
  isplitl [Hw]; · iexact Hw
  isplitl [A1]; · iexact A1
  isplitl [A2]; · iexact A2
  isplitl [A3]; · iexact A3
  isplitl [A4] <;> iassumption

theorem opH_step (hv : v < n) (hv' : v < 15) (K : TC F PUnit) {Q : PUnit.{1} → sProp 𝕄} :
    Ring pk wt c n w v p m x y k g ⊢ iprop((Ring pk wt c n w (v + 1) p m x y k g -∗ WP c K Q) -∗ WP c (opH v K) Q) := by
  unfold Ring
  iintro ⟨#HR, Hw, A1, A2, A3, A4, HO⟩ Hk
  iapply (agSent_step pk wt c true n w v hv hv' (may c n m g (lv_agS true v c) (by omega) (by omega) (by omega) (by omega)) _) $$ [A1 HO]
  · isplitr; · iexact HR
    isplitl [A1] <;> iassumption
  iintro ⟨A1, HO⟩
  iapply (agSent_step pk wt c false n w v hv hv' (may c n m g (lv_agS false v c) (by omega) (by omega) (by omega) (by omega)) _) $$ [A2 HO]
  · isplitr; · iexact HR
    isplitl [A2] <;> iassumption
  iintro ⟨A2, HO⟩
  iapply Hk
  isplitr; · iexact HR
  isplitl [Hw]; · iexact Hw
  isplitl [A1]; · iexact A1
  isplitl [A2]; · iexact A2
  isplitl [A3]; · iexact A3
  isplitl [A4] <;> iassumption

theorem opI_step (hn : n < 15) (hw : n ≤ w) (hv : v ≤ n) (K : TC F PUnit) {Q : PUnit.{1} → sProp 𝕄} :
    Ring pk wt c n w v p m x y k g ⊢ iprop((Ring pk wt c (n + 1) w v p m x y k g -∗ WP c K Q) -∗ WP c (opI c n K) Q) := by
  unfold Ring
  iintro ⟨#HR, Hw, A1, A2, A3, A4, HO⟩ Hk
  iapply (agSend_step pk wt c true n w v hn hv hw _ (due_agR c _ _ _ _ _ _ hn) _) $$ [A1 HO]
  · isplitr; · iexact HR
    isplitl [A1] <;> iassumption
  iintro ⟨A1, HO⟩
  iapply (agSend_step pk wt c false n w v hn hv hw _ (due_agL c _ _ _ _ _ _ hn) _) $$ [A2 HO]
  · isplitr; · iexact HR
    isplitl [A2] <;> iassumption
  iintro ⟨A2, HO⟩
  iapply Hk
  isplitr; · iexact HR
  isplitl [Hw]; · iexact Hw
  isplitl [A1]; · iexact A1
  isplitl [A2]; · iexact A2
  isplitl [A3]; · iexact A3
  isplitl [A4] <;> iassumption

theorem take {s : Finset ℕ} {j : ℕ} (h : j ∈ s) (Φ : ℕ → sProp 𝕄) : bigSep s Φ ⊢ iprop(Φ j ∗ (Φ j -∗ bigSep s Φ)) := by
  rw [← Finset.insert_erase h, bigSep_insert (Finset.notMem_erase _ _)]
  show iprop(Φ j ∗ bigSep (s.erase j) Φ) ⊢ iprop(Φ j ∗ (Φ j -∗ iprop(Φ j ∗ bigSep (s.erase j) Φ)))
  iintro ⟨H1, H2⟩
  isplitl [H1]; · iexact H1
  iintro H1
  isplitl [H1] <;> iassumption

/-- A slot read while its copy onwards is in flight, -/
theorem slot_shared (b : Bool) (h : ℕ) (h1 : v ≤ h) (h2 : h < n) :
    AG pk b n w v c ⊢ iprop(∃ q, xs b h c q (xv pk b h c) ∗ (xs b h c q (xv pk b h c) -∗ AG pk b n w v c)) := by
  unfold AG
  iintro ⟨A1, A2, A3⟩
  ihave A2 := (take (Finset.mem_Ico.mpr ⟨h1, h2⟩) _) $$ A2
  icases A2 with ⟨⟨Hx, Hc⟩, Hb⟩
  iexists fullShare.right
  isplitl [Hx]; · iexact Hx
  iintro Hx
  isplitl [A1]; · iexact A1
  isplitl [Hx Hc Hb]
  · iapply Hb
    isplitl [Hx] <;> iassumption
  iexact A3
/-- before it, -/
theorem slot_fresh (b : Bool) (h : ℕ) (h1 : n ≤ h) (h2 : h < w + 1) :
    AG pk b n w v c ⊢ iprop(∃ q, xs b h c q (xv pk b h c) ∗ (xs b h c q (xv pk b h c) -∗ AG pk b n w v c)) := by
  unfold AG
  iintro ⟨A1, A2, A3, A4⟩
  ihave A3 := (take (Finset.mem_Ico.mpr ⟨h1, h2⟩) _) $$ A3
  icases A3 with ⟨Hx, Hb⟩
  iexists fullShare
  isplitl [Hx]; · iexact Hx
  iintro Hx
  isplitl [A1]; · iexact A1
  isplitl [A2]; · iexact A2
  isplitl [Hx Hb]
  · iapply Hb
    iexact Hx
  iexact A4

/-- Once around the ring is home. -/
theorem src_16 (b : Bool) (c : Dev nD) : src b 16 c = c := by
  cases b <;> revert c <;> decide
/-- and the device's own, after it. -/
theorem slot_own (b : Bool) (h1 : 0 < v) :
    AG pk b n w v c ⊢ iprop(∃ q, xs b 16 c q (xv pk b 16 c) ∗ (xs b 16 c q (xv pk b 16 c) -∗ AG pk b n w v c)) := by
  have e1 : xv pk b 16 c = xv pk b 0 c := by unfold xv; rw [src_16]; rfl
  rw [e1]
  show _ ⊢ iprop(∃ q, xs b 0 c q (xv pk b 0 c) ∗ (xs b 0 c q (xv pk b 0 c) -∗ AG pk b n w v c))
  unfold AG
  iintro ⟨A1, A2⟩
  ihave A1 := (take (Finset.mem_Ico.mpr ⟨le_refl 0, h1⟩) _) $$ A1
  icases A1 with ⟨Hx, Hb⟩
  iexists fullShare
  isplitl [Hx]; · iexact Hx
  iintro Hx
  isplitl [Hx Hb]
  · iapply Hb
    iexact Hx
  iexact A2

theorem opG_step (h : ℕ) (hsl : ∀ b, AG pk b n w v c ⊢ iprop(∃ q, xs b h c q (xv pk b h c) ∗ (xs b h c q (xv pk b h c) -∗ AG pk b n w v c)))
    (K : FVec F S512x1024 .f32 → FVec F S512x1024 .f32 → TC F PUnit) {Q : PUnit.{1} → sProp 𝕄} :
    Ring pk wt c n w v p m x y k g
      ⊢ iprop((Ring pk wt c n w v p m x y k g -∗ WP c (K (con pk wt true h c) (con pk wt false h c)) Q) -∗ WP c (opG c h K) Q) := by
  unfold Ring
  iintro ⟨#HR, Hw, A1, A2, A3, A4, HO⟩ Hk
  iapply (loadC_AG pk wt c true h n w v (hsl true) _) $$ [A1 Hw]
  · isplitl [A1] <;> iassumption
  iintro ⟨A1, Hw⟩
  iapply (loadC_AG pk wt c false h n w v (hsl false) _) $$ [A2 Hw]
  · isplitl [A2] <;> iassumption
  iintro ⟨A2, Hw⟩
  iapply Hk
  isplitr; · iexact HR
  isplitl [Hw]; · iexact Hw
  isplitl [A1]; · iexact A1
  isplitl [A2]; · iexact A2
  isplitl [A3]; · iexact A3
  isplitl [A4] <;> iassumption

theorem opA_step (hx : x < 15) (hg : g ≤ x) (h1 : n < 15 → x + 2 ≤ n) (h2 : m < 15 → x < m) (h3 : g < 13 → x ≤ g + 1)
    (K : FVec F S512x1024 .f32 → FVec F S512x1024 .f32 → TC F PUnit) {Q : PUnit.{1} → sProp 𝕄} :
    Ring pk wt c n w v p m x y k g
      ⊢ iprop((Ring pk wt c n w v p m (x + 1) y k g -∗ WP c (K (acc pk wt true (x + 1) c) (acc pk wt false (x + 1) c)) Q)
        -∗ WP c (opA x (con pk wt true (x + 2) c) (con pk wt false (x + 2) c) K) Q) := by
  unfold Ring
  iintro ⟨#HR, Hw, A1, A2, A3, A4, HO⟩ Hk
  iapply (acRecv_step pk wt c true p m x y k g hx hg (may c n m g (lv_acV true x hx c) (by omega) (by omega) (by omega) (by omega)) _) $$ [A3 HO]
  · isplitr; · iexact HR
    isplitl [A3] <;> iassumption
  iintro ⟨A3, HO⟩
  iapply (acRecv_step pk wt c false p m x y k g hx hg (may c n m g (lv_acV false x hx c) (by omega) (by omega) (by omega) (by omega)) _) $$ [A4 HO]
  · isplitr; · iexact HR
    isplitl [A4] <;> iassumption
  iintro ⟨A4, HO⟩
  iapply Hk
  isplitr; · iexact HR
  isplitl [Hw]; · iexact Hw
  isplitl [A1]; · iexact A1
  isplitl [A2]; · iexact A2
  isplitl [A3]; · iexact A3
  isplitl [A4] <;> iassumption

theorem opB_step (hg : g < 13) (hx : g < x) (K : TC F PUnit) {Q : PUnit.{1} → sProp 𝕄} :
    Ring pk wt c n w v p m x y k g ⊢ iprop((Ring pk wt c n w v p m x y k (g + 1) -∗ WP c K Q) -∗ WP c (opB c g K) Q) := by
  unfold Ring
  iintro ⟨#HR, Hw, A1, A2, A3, A4, HO⟩ Hk
  iapply (free_step pk wt c true p m x y k g hg hx _ (due_crR c _ _ _ _ _ _ hg) _) $$ [A3 HO]
  · isplitr; · iexact HR
    isplitl [A3] <;> iassumption
  iintro ⟨A3, HO⟩
  iapply (free_step pk wt c false p m x y k g hg hx _ (due_crL c _ _ _ _ _ _ hg) _) $$ [A4 HO]
  · isplitr; · iexact HR
    isplitl [A4] <;> iassumption
  iintro ⟨A4, HO⟩
  iapply Hk
  isplitr; · iexact HR
  isplitl [Hw]; · iexact Hw
  isplitl [A1]; · iexact A1
  isplitl [A2]; · iexact A2
  isplitl [A3]; · iexact A3
  isplitl [A4] <;> iassumption

theorem opC_step (hk : k < 13) (hm : m ≤ k + 2) (hv : k < m) (hp : p ≤ k + 2) (h1 : n < 15 → k + 3 ≤ n) (h2 : m < 15 → k + 2 ≤ m) (h3 : g < 13 → k + 1 ≤ g)
    (K : TC F PUnit) {Q : PUnit.{1} → sProp 𝕄} :
    Ring pk wt c n w v p m x k k g ⊢ iprop((Ring pk wt c n w v p m x (k + 1) (k + 1) g -∗ WP c K Q) -∗ WP c (opC k K) Q) := by
  unfold Ring
  iintro ⟨#HR, Hw, A1, A2, A3, A4, HO⟩ Hk
  iapply (freed_step pk wt c true p m x k k g hk hm (may c n m g (lv_cr true k c) (by omega) (by omega) (by omega) (by omega)) _) $$ [A3 HO]
  · isplitr; · iexact HR
    isplitl [A3] <;> iassumption
  iintro ⟨A3, HO⟩
  iapply (acSent_step pk wt c true p m x k (k + 1) g hv (by omega) hp (may c n m g (lv_acS true k c) (by omega) (by omega) (by omega) (by omega)) _) $$ [A3 HO]
  · isplitr; · iexact HR
    isplitl [A3] <;> iassumption
  iintro ⟨A3, HO⟩
  iapply (freed_step pk wt c false p m x k k g hk hm (may c n m g (lv_cr false k c) (by omega) (by omega) (by omega) (by omega)) _) $$ [A4 HO]
  · isplitr; · iexact HR
    isplitl [A4] <;> iassumption
  iintro ⟨A4, HO⟩
  iapply (acSent_step pk wt c false p m x k (k + 1) g hv (by omega) hp (may c n m g (lv_acS false k c) (by omega) (by omega) (by omega) (by omega)) _) $$ [A4 HO]
  · isplitr; · iexact HR
    isplitl [A4] <;> iassumption
  iintro ⟨A4, HO⟩
  iapply Hk
  isplitr; · iexact HR
  isplitl [Hw]; · iexact Hw
  isplitl [A1]; · iexact A1
  isplitl [A2]; · iexact A2
  isplitl [A3]; · iexact A3
  isplitl [A4] <;> iassumption

theorem opD_step (hm : p < 15) (hp : p < y + 2) (hk : p < k + 2) (hy : y ≤ p) (K : TC F PUnit) {Q : PUnit.{1} → sProp 𝕄} :
    Ring pk wt c n w v p p x y k g
      ⊢ iprop((Ring pk wt c n w v (p + 1) (p + 1) x y k g -∗ WP c K Q) -∗ WP c (opD c p (acc pk wt true p c) (acc pk wt false p c) K) Q) := by
  unfold Ring
  iintro ⟨#HR, Hw, A1, A2, A3, A4, HO⟩ Hk
  iapply (putS_step pk wt c true p p x y k g hp (le_refl p) _) $$ A3
  iintro A3
  iapply (putS_step pk wt c false p p x y k g hp (le_refl p) _) $$ A4
  iintro A4
  iapply (acSend_step pk wt c true (p + 1) p x y k g hm (by omega) hk hy _ (due_acR c _ _ _ _ _ _ hm) _) $$ [A3 HO]
  · isplitr; · iexact HR
    isplitl [A3] <;> iassumption
  iintro ⟨A3, HO⟩
  iapply (acSend_step pk wt c false (p + 1) p x y k g hm (by omega) hk hy _ (due_acL c _ _ _ _ _ _ hm) _) $$ [A4 HO]
  · isplitr; · iexact HR
    isplitl [A4] <;> iassumption
  iintro ⟨A4, HO⟩
  iapply Hk
  isplitr; · iexact HR
  isplitl [Hw]; · iexact Hw
  isplitl [A1]; · iexact A1
  isplitl [A2]; · iexact A2
  isplitl [A3]; · iexact A3
  isplitl [A4] <;> iassumption

/-! ## The hops -/

/-- A middle hop takes the state before hop `s` to that before hop `s + 1`. -/
theorem mid_step (s : ℕ) (hs : s < 11) (K : FVec F S512x1024 .f32 → FVec F S512x1024 .f32 → TC F PUnit) {Q : PUnit.{1} → sProp 𝕄} :
    Ring pk wt c (s + 4) (s + 3) (s + 2) (s + 2) (s + 2) (s + 1) s s (s + 1)
      ⊢ iprop((Ring pk wt c (s + 5) (s + 4) (s + 3) (s + 3) (s + 3) (s + 2) (s + 1) (s + 1) (s + 2)
          -∗ WP c (K (con pk wt true (s + 4) c) (con pk wt false (s + 4) c)) Q)
        -∗ WP c (mid c s (con pk wt true (s + 3) c) (con pk wt false (s + 3) c) K) Q) := by
  unfold mid
  iintro H Hk
  iapply (opA_step pk wt c (by omega) (by omega) (by omega) (by omega) (by omega) _) $$ H; iintro H
  iapply (opB_step pk wt c (by omega) (by omega) _) $$ H; iintro H
  iapply (opC_step pk wt c (by omega) (by omega) (by omega) (by omega) (by omega) (by omega) (by omega) _) $$ H; iintro H
  iapply (opD_step pk wt c (by omega) (by omega) (by omega) (by omega) _) $$ H; iintro H
  iapply (opE_step pk wt c (by omega) (by omega) (by omega) (by omega) (by omega) _) $$ H; iintro H
  iapply (opG_step pk wt c (s + 4) (fun b => slot_fresh pk c b (s + 4) (by omega) (by omega)) _) $$ H; iintro H
  iapply (opH_step pk wt c (by omega) (by omega) _) $$ H; iintro H
  iapply (opI_step pk wt c (by omega) (by omega) (by omega) _) $$ H; iintro H
  iapply Hk; iexact H

theorem mids_step (N : ℕ) (s : ℕ) (hs : s + N ≤ 11) (K : FVec F S512x1024 .f32 → FVec F S512x1024 .f32 → TC F PUnit) {Q : PUnit.{1} → sProp 𝕄} :
    Ring pk wt c (s + 4) (s + 3) (s + 2) (s + 2) (s + 2) (s + 1) s s (s + 1)
      ⊢ iprop((Ring pk wt c (s + N + 4) (s + N + 3) (s + N + 2) (s + N + 2) (s + N + 2) (s + N + 1) (s + N) (s + N) (s + N + 1)
          -∗ WP c (K (con pk wt true (s + N + 3) c) (con pk wt false (s + N + 3) c)) Q)
        -∗ WP c (mids c N s (con pk wt true (s + 3) c) (con pk wt false (s + 3) c) K) Q) := by
  induction N generalizing s with
  | zero => iintro H Hk; unfold mids; iapply Hk; iexact H
  | succ N ih =>
    have ih := ih (s + 1) (by omega)
    rw [show s + 1 + N = s + (N + 1) by omega] at ih
    unfold mids
    iintro H Hk
    iapply (mid_step pk wt c s (by omega) _) $$ H; iintro H
    iapply ih $$ H; iintro H
    iapply Hk; iexact H

theorem early_step (K : FVec F S512x1024 .f32 → FVec F S512x1024 .f32 → TC F PUnit) {Q : PUnit.{1} → sProp 𝕄} :
    Ring pk wt c 1 0 0 0 0 0 0 0 0
      ⊢ iprop((Ring pk wt c 4 3 2 2 2 1 0 0 1 -∗ WP c (K (con pk wt true 3 c) (con pk wt false 3 c)) Q) -∗ WP c (early c K) Q) := by
  unfold early
  iintro H Hk
  iapply (opE_step pk wt c (by omega) (by omega) (by omega) (by omega) (by omega) _) $$ H; iintro H
  iapply (opH_step pk wt c (by omega) (by omega) _) $$ H; iintro H
  iapply (opI_step pk wt c (by omega) (by omega) (by omega) _) $$ H; iintro H
  iapply (opG_step pk wt c 1 (fun b => slot_shared pk c b 1 (by omega) (by omega)) _) $$ H; iintro H
  iapply (opD_step pk wt c (by omega) (by omega) (by omega) (by omega) _) $$ H; iintro H
  iapply (opE_step pk wt c (by omega) (by omega) (by omega) (by omega) (by omega) _) $$ H; iintro H
  iapply (opG_step pk wt c 2 (fun b => slot_fresh pk c b 2 (by omega) (by omega)) _) $$ H; iintro H
  iapply (opI_step pk wt c (by omega) (by omega) (by omega) _) $$ H; iintro H
  iapply (opA_step pk wt c (by omega) (by omega) (by omega) (by omega) (by omega) _) $$ H; iintro H
  iapply (opB_step pk wt c (by omega) (by omega) _) $$ H; iintro H
  iapply (opD_step pk wt c (by omega) (by omega) (by omega) (by omega) _) $$ H; iintro H
  iapply (opE_step pk wt c (by omega) (by omega) (by omega) (by omega) (by omega) _) $$ H; iintro H
  iapply (opG_step pk wt c 3 (fun b => slot_fresh pk c b 3 (by omega) (by omega)) _) $$ H; iintro H
  iapply (opH_step pk wt c (by omega) (by omega) _) $$ H; iintro H
  iapply (opI_step pk wt c (by omega) (by omega) (by omega) _) $$ H; iintro H
  iapply Hk; iexact H

end

end Cert.Moe
-- ==== Proof.Body.lean ====
/- The body on one device, from what the launch gives it to what it gives back: the barrier, the first slot, the
   hops, and the result's two halves. -/
module

public import proofs.«01_k».proof.Proof.Hops
public import Idealize.ShloMosaic.Lib.Ring.FamCut
public import Idealize.ShloMosaic.Lib.ReshapeSlab

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The buffers and their slots -/

theorem bigSep_fin (N : ℕ) (Φ : ℕ → sProp 𝕄) : bigSep (Finset.univ : Finset (Fin N)) (fun j => Φ j.val) = bigSep (Finset.Ico 0 N) Φ := by
  rw [show Finset.Ico 0 N = (Finset.univ : Finset (Fin N)).map Fin.valEmbedding by
    ext x; simp only [Finset.mem_Ico, Finset.mem_map, Finset.mem_univ, true_and, Fin.valEmbedding_apply]
    exact ⟨fun h => ⟨⟨x, h.2⟩, rfl⟩, fun ⟨a, h⟩ => h ▸ ⟨Nat.zero_le _, a.isLt⟩⟩, bigSep_map]
  rfl

abbrev xI (b : Bool) (c : Dev nD) (j : Fin 16) : Finset (Idx ((xw b).view.loc (c : Thread nD τ))) := ((xw b).slice (xrect j.val) (fun _ => rfl)).view.set
abbrev sI (b : Bool) (c : Dev nD) (k : Fin 2) : Finset (Idx ((sbuf b).view.loc (c : Thread nD τ))) := ((sbuf b).slice (brect k.val) (fun _ => rfl)).view.set
abbrev rI (b : Bool) (c : Dev nD) (k : Fin 2) : Finset (Idx ((rbuf b).view.loc (c : Thread nD τ))) := ((rbuf b).slice (brect k.val) (fun _ => rfl)).view.set

theorem xI_disj (b : Bool) (c : Dev nD) (j j' : Fin 16) (h : j ≠ j') : Disjoint (xI b c j) (xI b c j') := by
  have h1 : j.val ≠ j'.val := fun e => h (Fin.ext e)
  refine View.disjoint_slice_of_sep (xw b).view (xrect j.val) (xrect j'.val) (0 : Fin 3) rfl rfl ?_
  show j.val % 16 + 1 ≤ j'.val % 16 ∨ j'.val % 16 + 1 ≤ j.val % 16
  omega
theorem sI_disj (b : Bool) (c : Dev nD) (j j' : Fin 2) (h : j ≠ j') : Disjoint (sI b c j) (sI b c j') := by
  have h1 : j.val ≠ j'.val := fun e => h (Fin.ext e)
  refine View.disjoint_slice_of_sep (sbuf b).view (brect j.val) (brect j'.val) (0 : Fin 3) rfl rfl ?_
  show j.val % 2 + 1 ≤ j'.val % 2 ∨ j'.val % 2 + 1 ≤ j.val % 2
  omega
theorem rI_disj (b : Bool) (c : Dev nD) (j j' : Fin 2) (h : j ≠ j') : Disjoint (rI b c j) (rI b c j') := by
  have h1 : j.val ≠ j'.val := fun e => h (Fin.ext e)
  refine View.disjoint_slice_of_sep (rbuf b).view (brect j.val) (brect j'.val) (0 : Fin 3) rfl rfl ?_
  show j.val % 2 + 1 ≤ j'.val % 2 ∨ j'.val % 2 + 1 ≤ j.val % 2
  omega

section Buffers

theorem xsA_eq (b : Bool) (j : ℕ) (c : Dev nD) : xsA (F := F) b j c
    = iprop(∃ f, (xw b).view.loc (c : Thread nD τ) ↦[((xw b).slice (xrect j) (fun _ => rfl)).view.set]{fullShare} f) := by
  have h1 : xsA (F := F) b j c ⊢ iprop(∃ f, (xw b).view.loc (c : Thread nD τ) ↦[((xw b).slice (xrect j) (fun _ => rfl)).view.set]{fullShare} f) := by
    unfold xsA xs owns
    iintro ⟨%X, %f, -, H⟩; iexists f; iexact H
  have h2 : iprop(∃ f, (xw b).view.loc (c : Thread nD τ) ↦[((xw b).slice (xrect j) (fun _ => rfl)).view.set]{fullShare} f) ⊢ xsA (F := F) b j c := by
    unfold xsA xs owns
    iintro ⟨%f, H⟩; iexists _, f
    isplitr; · ipureintro; exact rfl
    iexact H
  exact BI.Entails.antisymm h1 h2
theorem ssA_eq (b : Bool) (j : ℕ) (c : Dev nD) : ssA (F := F) b j c
    = iprop(∃ f, (sbuf b).view.loc (c : Thread nD τ) ↦[((sbuf b).slice (brect j) (fun _ => rfl)).view.set]{fullShare} f) := by
  have h1 : ssA (F := F) b j c ⊢ iprop(∃ f, (sbuf b).view.loc (c : Thread nD τ) ↦[((sbuf b).slice (brect j) (fun _ => rfl)).view.set]{fullShare} f) := by
    unfold ssA ss owns
    iintro ⟨%X, %f, -, H⟩; iexists f; iexact H
  have h2 : iprop(∃ f, (sbuf b).view.loc (c : Thread nD τ) ↦[((sbuf b).slice (brect j) (fun _ => rfl)).view.set]{fullShare} f) ⊢ ssA (F := F) b j c := by
    unfold ssA ss owns
    iintro ⟨%f, H⟩; iexists _, f
    isplitr; · ipureintro; exact rfl
    iexact H
  exact BI.Entails.antisymm h1 h2
theorem rsA_eq (b : Bool) (j : ℕ) (c : Dev nD) : rsA (F := F) b j c
    = iprop(∃ f, (rbuf b).view.loc (c : Thread nD τ) ↦[((rbuf b).slice (brect j) (fun _ => rfl)).view.set]{fullShare} f) := by
  have h1 : rsA (F := F) b j c ⊢ iprop(∃ f, (rbuf b).view.loc (c : Thread nD τ) ↦[((rbuf b).slice (brect j) (fun _ => rfl)).view.set]{fullShare} f) := by
    unfold rsA rs owns
    iintro ⟨%X, %f, -, H⟩; iexists f; iexact H
  have h2 : iprop(∃ f, (rbuf b).view.loc (c : Thread nD τ) ↦[((rbuf b).slice (brect j) (fun _ => rfl)).view.set]{fullShare} f) ⊢ rsA (F := F) b j c := by
    unfold rsA rs owns
    iintro ⟨%f, H⟩; iexists _, f
    isplitr; · ipureintro; exact rfl
    iexact H
  exact BI.Entails.antisymm h1 h2

def xAll (b : Bool) (c : Dev nD) : sProp 𝕄 := iprop(∃ f : Buf (Elt F) ((xw b).view.loc (c : Thread nD τ)), (xw b).view.loc (c : Thread nD τ) ↦{fullShare} f)
def sAll (b : Bool) (c : Dev nD) : sProp 𝕄 := iprop(∃ f : Buf (Elt F) ((sbuf b).view.loc (c : Thread nD τ)), (sbuf b).view.loc (c : Thread nD τ) ↦{fullShare} f)
def rAll (b : Bool) (c : Dev nD) : sProp 𝕄 := iprop(∃ f : Buf (Elt F) ((rbuf b).view.loc (c : Thread nD τ)), (rbuf b).view.loc (c : Thread nD τ) ↦{fullShare} f)
def wAll (c : Dev nD) : sProp 𝕄 := iprop(∃ f : Buf (Elt F) ((c : Thread nD τ).loc cc0_scratch2), ((c : Thread nD τ).loc cc0_scratch2) ↦{fullShare} f)

/-- What the slots leave of a direction's three buffers. -/
def rests (b : Bool) (c : Dev nD) : sProp 𝕄 :=
  iprop((∃ f : Buf (Elt F) ((xw b).view.loc (c : Thread nD τ)), (xw b).view.loc (c : Thread nD τ) ↦[Ring.restOf (xI b c)]{fullShare} f)
    ∗ (∃ f : Buf (Elt F) ((sbuf b).view.loc (c : Thread nD τ)), (sbuf b).view.loc (c : Thread nD τ) ↦[Ring.restOf (sI b c)]{fullShare} f)
    ∗ ∃ f : Buf (Elt F) ((rbuf b).view.loc (c : Thread nD τ)), (rbuf b).view.loc (c : Thread nD τ) ↦[Ring.restOf (rI b c)]{fullShare} f)

theorem split_bufs (b : Bool) (c : Dev nD) : iprop(xAll (F := F) b c ∗ sAll (F := F) b c ∗ rAll (F := F) b c)
    ⊢ iprop(bigSep (Finset.Ico 0 16) (fun j => xsA (F := F) b j c) ∗ bigSep (Finset.Ico 0 2) (fun k => ssA (F := F) b k c)
      ∗ bigSep (Finset.Ico 0 2) (fun k => rsA (F := F) b k c) ∗ rests (F := F) b c) := by
  unfold xAll sAll rAll rests
  rw [← bigSep_fin, ← bigSep_fin, ← bigSep_fin]
  simp only [xsA_eq, ssA_eq, rsA_eq]
  iintro ⟨H1, H2, H3⟩
  ihave H1 := (Ring.fam_split_ex (xI b c) (xI_disj b c)) $$ H1
  ihave H2 := (Ring.fam_split_ex (sI b c) (sI_disj b c)) $$ H2
  ihave H3 := (Ring.fam_split_ex (rI b c) (rI_disj b c)) $$ H3
  icases H1 with ⟨H1, R1⟩
  icases H2 with ⟨H2, R2⟩
  icases H3 with ⟨H3, R3⟩
  isplitl [H1]; · iexact H1
  isplitl [H2]; · iexact H2
  isplitl [H3]; · iexact H3
  isplitl [R1]; · iexact R1
  isplitl [R2] <;> iassumption

theorem join_bufs (b : Bool) (c : Dev nD) : iprop(bigSep (Finset.Ico 0 16) (fun j => xsA (F := F) b j c) ∗ bigSep (Finset.Ico 0 2) (fun k => ssA (F := F) b k c)
      ∗ bigSep (Finset.Ico 0 2) (fun k => rsA (F := F) b k c) ∗ rests (F := F) b c)
    ⊢ iprop(xAll (F := F) b c ∗ sAll (F := F) b c ∗ rAll (F := F) b c) := by
  unfold xAll sAll rAll rests
  rw [← bigSep_fin, ← bigSep_fin, ← bigSep_fin]
  simp only [xsA_eq, ssA_eq, rsA_eq]
  iintro ⟨H1, H2, H3, ⟨%f1, R1⟩, ⟨%f2, R2⟩, ⟨%f3, R3⟩⟩
  isplitl [H1 R1]
  · iapply (Ring.fam_join (xI b c) (xI_disj b c) f1)
    isplitl [H1]; · iexact H1
    iexists f1; iexact R1
  isplitl [H2 R2]
  · iapply (Ring.fam_join (sI b c) (sI_disj b c) f2)
    isplitl [H2]; · iexact H2
    iexists f2; iexact R2
  · iapply (Ring.fam_join (rI b c) (rI_disj b c) f3)
    isplitl [H3]; · iexact H3
    iexists f3; iexact R3

end Buffers

/-! ## The ends of the rings -/

section
variable (pk : Bool → Dev nD → S1x512x576.Idx → Elt F .bf16) (wt : Dev nD → S2048x1024.Idx → Elt F .bf16)

/-- What device `c` is given of direction `b`'s protocol. -/
def start1 (b : Bool) (c : Dev nD) : sProp 𝕄 :=
  iprop(dutyTok ER (barc (bwd b c)) 0 b
    ∗ bigSep (Finset.Ico 0 15) (fun h => iprop(dutyTok ER (agSc b h c) 0 true ∗ dutyTok ER (agVc b h (fwd b c)) 0 true))
    ∗ bigSep (Finset.Ico 0 15) (fun h => iprop(atPos ER (agVc b h c) 0 ∅ 0 ∗ cred (tallyAt (agVc b h c) 0 N1)))
    ∗ bigSep (Finset.Ico 0 15) (fun h => atPos ER (agSc b h c) 0 ∅ 0)
    ∗ bigSep (Finset.Ico 0 15) (fun j => iprop(dutyTok ER (acSc b j c) 0 true ∗ dutyTok ER (acVc b j (fwd b c)) 0 true))
    ∗ bigSep (Finset.Ico 0 13) (fun j => dutyTok ER (crc b j (bwd b c)) (j / 2) true)
    ∗ bigSep (Finset.Ico 0 15) (fun j => iprop(atPos ER (acVc b j c) 0 ∅ 0 ∗ cred (tallyAt (acVc b j c) 0 N2)))
    ∗ bigSep (Finset.Ico 0 15) (fun j => atPos ER (acSc b j c) 0 ∅ 0)
    ∗ bigSep (Finset.Ico 0 2) (fun j => atPos ER (crc b j c) (j / 2) ∅ 0)
    ∗ bigSep (Finset.Ico 0 13) (fun j => cred (tallyAt (crc b j c) (j / 2) 1)))

/-- What it gives back of it: every semaphore at zero. -/
def sems1 (b : Bool) (c : Dev nD) : sProp 𝕄 :=
  iprop(bigSep (Finset.Ico 0 15) (fun h => semVal (agVc b h c) 0) ∗ bigSep (Finset.Ico 0 15) (fun h => semVal (agSc b h c) 0)
    ∗ bigSep (Finset.Ico 0 15) (fun h => semVal (acVc b h c) 0) ∗ bigSep (Finset.Ico 0 15) (fun h => semVal (acSc b h c) 0)
    ∗ bigSep (Finset.Ico 0 2) (fun k => semVal (crc b k c) 0))

theorem AG_begin (b : Bool) (c : Dev nD) : iprop(xs b 0 c fullShare (pk b c) ∗ bigSep (Finset.Ico 1 16) (fun j => xsA (F := F) b j (fwd b c))
      ∗ bigSep (Finset.Ico 0 15) (fun h => iprop(dutyTok ER (agSc b h c) 0 true ∗ dutyTok ER (agVc b h (fwd b c)) 0 true))
      ∗ bigSep (Finset.Ico 0 15) (fun h => iprop(atPos ER (agVc b h c) 0 ∅ 0 ∗ cred (tallyAt (agVc b h c) 0 N1)))
      ∗ bigSep (Finset.Ico 0 15) (fun h => atPos ER (agSc b h c) 0 ∅ 0))
    ⊢ AG pk b 0 0 0 c := by
  unfold AG
  rw [pop (show 0 < 0 + 1 by omega)]
  simp only [Finset.Ico_self, bigSep_empty]
  iintro ⟨H1, H2, H3, H4, H5⟩
  isplitr; · iempintro
  isplitr; · iempintro
  isplitl [H1]
  · isplitl [H1]; · iexact H1
    iempintro
  isplitl [H2]; · iexact H2
  isplitl [H3]; · iexact H3
  isplitl [H4]; · iexact H4
  isplitl [H5]; · iexact H5
  isplitr <;> iempintro

theorem reached_pair (b : Bool) (c : Dev nD) : recs pk wt ⊢ reached ER (crc b 0 c) (0 / 2) := by
  iintro HR
  ihave H := (recs_reg pk wt c (crS b 0)) $$ HR
  unfold known
  icases H with ⟨%κ, -, H⟩
  iexact H
theorem reached_pair' (b : Bool) (c : Dev nD) : recs pk wt ⊢ reached ER (crc b 1 c) (1 / 2) := by
  iintro HR
  ihave H := (recs_reg pk wt c (crS b 1)) $$ HR
  unfold known
  icases H with ⟨%κ, -, H⟩
  iexact H

theorem AC_begin (b : Bool) (c : Dev nD) : iprop(recs pk wt ∗ bigSep (Finset.Ico 0 2) (fun k => ssA (F := F) b k c) ∗ bigSep (Finset.Ico 0 2) (fun k => rsA (F := F) b k (fwd b c))
      ∗ bigSep (Finset.Ico 0 15) (fun j => iprop(dutyTok ER (acSc b j c) 0 true ∗ dutyTok ER (acVc b j (fwd b c)) 0 true))
      ∗ bigSep (Finset.Ico 0 13) (fun j => dutyTok ER (crc b j (bwd b c)) (j / 2) true)
      ∗ bigSep (Finset.Ico 0 15) (fun j => iprop(atPos ER (acVc b j c) 0 ∅ 0 ∗ cred (tallyAt (acVc b j c) 0 N2)))
      ∗ bigSep (Finset.Ico 0 15) (fun j => atPos ER (acSc b j c) 0 ∅ 0)
      ∗ bigSep (Finset.Ico 0 2) (fun j => atPos ER (crc b j c) (j / 2) ∅ 0)
      ∗ bigSep (Finset.Ico 0 13) (fun j => cred (tallyAt (crc b j c) (j / 2) 1)))
    ⊢ AC pk wt b 0 0 0 0 0 0 c := by
  unfold AC
  simp only [Nat.zero_add]
  rw [bigSep_sep' (Φ := fun j => rsA (F := F) b j (fwd b c)) (Ψ := fun j => reached ER (crc b j c) (j / 2)),
    pop (show 0 < 2 by omega) (fun j => reached ER (crc b j c) (j / 2)), pop (show 0 + 1 < 2 by omega) (fun j => reached ER (crc b j c) (j / 2))]
  simp only [Finset.Ico_self, bigSep_empty]
  iintro ⟨#HR, H1, H2, H3, H4, H5, H6, H7, H8⟩
  isplitl [H1]; · iexact H1
  isplitr; · iempintro
  isplitr; · iempintro
  isplitl [H2]
  · isplitl [H2]; · iexact H2
    isplitr; · iapply (reached_pair pk wt b c); iexact HR
    isplitr; · iapply (reached_pair' pk wt b c); iexact HR
    iempintro
  isplitl [H3]; · iexact H3
  isplitr; · iempintro
  isplitl [H4]; · iexact H4
  isplitl [H5]; · iexact H5
  isplitl [H6]; · iexact H6
  isplitl [H7]; · iexact H7
  isplitl [H8]; · iexact H8
  isplitr <;> iempintro

theorem AG_end (b : Bool) (c : Dev nD) : AG pk b 15 15 15 c ⊢ iprop(bigSep (Finset.Ico 0 16) (fun j => xsA (F := F) b j c)
    ∗ bigSep (Finset.Ico 0 15) (fun h => semVal (agVc b h c) 0) ∗ bigSep (Finset.Ico 0 15) (fun h => semVal (agSc b h c) 0)) := by
  have hx : ∀ j, xs b j c fullShare (xv pk b j c) ⊢ xsA (F := F) b j c := fun j => by
    unfold xsA; iintro H; iexists _; iexact H
  have hb : bigSep (Finset.Ico 0 15) (fun j => xs b j c fullShare (xv pk b j c)) ⊢ bigSep (Finset.Ico 0 15) (fun j => xsA (F := F) b j c) :=
    bigSep_mono fun j _ => hx j
  unfold AG
  rw [push (show 0 ≤ 15 by omega) (fun j => xsA (F := F) b j c), pop (show 15 < 15 + 1 by omega) (fun j => xs b j c fullShare (xv pk b j c))]
  simp only [Finset.Ico_self, bigSep_empty]
  iintro ⟨H1, -, ⟨H2, -⟩, -, -, -, -, H3, H4⟩
  isplitl [H1 H2]
  · isplitl [H2]; · iapply (hx 15); iexact H2
    iapply hb; iexact H1
  isplitl [H3] <;> iassumption

theorem close_cr (b : Bool) (j : ℕ) (hj : 13 ≤ j) (c : Dev nD) : iprop(recs pk wt ∗ atPos ER (crc b j c) (j / 2) ∅ 0) ⊢ |={Set.univ}=> (semVal (crc b j c) 0 : sProp 𝕄) := by
  iintro ⟨#HR, Hat⟩
  ihave #H1 := (recs_reg pk wt c (crS b j)) $$ HR
  unfold known
  icases H1 with ⟨%κ, #HI, #HR1⟩
  iapply (Rounds.cell_close ER (rd pk wt) (Set.mem_univ κ) (fun h => h) (R := j / 2) (fun r hr => duties_cr_later pk wt b j r c (by omega)))
  isplitr; · iexact HI
  iexact Hat

theorem AC_end (b : Bool) (c : Dev nD) : iprop(recs pk wt ∗ AC pk wt b 15 15 15 15 13 13 c)
    ⊢ |={Set.univ}=> iprop(bigSep (Finset.Ico 0 2) (fun k => ssA (F := F) b k c) ∗ bigSep (Finset.Ico 0 2) (fun k => rsA (F := F) b k c)
      ∗ bigSep (Finset.Ico 0 15) (fun h => semVal (acVc b h c) 0) ∗ bigSep (Finset.Ico 0 15) (fun h => semVal (acSc b h c) 0)
      ∗ bigSep (Finset.Ico 0 2) (fun k => semVal (crc b k c) 0)) := by
  have hr : ∀ j, rs b j c (out pk wt b j (bwd b c)) ⊢ rsA (F := F) b j c := fun j => by
    unfold rsA; iintro H; iexists _; iexact H
  unfold AC
  rw [pop (show 15 < 15 + 2 by omega), pop (show 15 + 1 < 15 + 2 by omega), pop (show 13 < 15 by omega), pop (show 13 + 1 < 15 by omega),
    pop (show 13 < 13 + 2 by omega), pop (show 13 + 1 < 13 + 2 by omega)]
  iintro ⟨#HR, ⟨Hs1, Hs0, -⟩, -, -, -, -, ⟨⟨Hr1, -⟩, ⟨Hr0, -⟩, -⟩, -, -, -, ⟨Ha1, Ha0, -⟩, -, H3, H4⟩
  imod (close_cr pk wt b 13 (by omega) c) $$ [Ha1] with Hz1
  · isplitr; · iexact HR
    iexact Ha1
  imod (close_cr pk wt b (13 + 1) (by omega) c) $$ [Ha0] with Hz0
  · isplitr; · iexact HR
    iexact Ha0
  imodintro
  rw [pop (show 0 < 2 by omega), pop (show 0 + 1 < 2 by omega), pop (show 0 < 2 by omega), pop (show 0 + 1 < 2 by omega), pop (show 0 < 2 by omega), pop (show 0 + 1 < 2 by omega)]
  simp only [Finset.Ico_self, bigSep_empty]
  isplitl [Hs1 Hs0]
  · isplitl [Hs0]; · iexact Hs0
    isplitl [Hs1]; · iexact Hs1
    iempintro
  isplitl [Hr1 Hr0]
  · isplitl [Hr0]; · iapply (hr 14); iexact Hr0
    isplitl [Hr1]; · iapply (hr 13); iexact Hr1
    iempintro
  isplitl [H3]; · iexact H3
  isplitl [H4]; · iexact H4
  isplitl [Hz0]
  · rw [show crc b 0 c = crc b (13 + 1) c from congrArg (fun q => cell c (.reg q)) (crS_mod b (13 + 1))]; iexact Hz0
  isplitl [Hz1]
  · rw [show crc b (0 + 1) c = crc b 13 c from congrArg (fun q => cell c (.reg q)) (crS_mod b 13)]; iexact Hz1
  iempintro

/-! ## The first slot and the barrier -/

theorem fill_step (b : Bool) (c : Dev nD) (X : FVec F S1x512x576 .bf16) (K : TC F PUnit) {Q : PUnit.{1} → sProp 𝕄} :
    xsA (F := F) b 0 c ⊢ iprop((xs b 0 c fullShare X -∗ WP c K Q) -∗ WP c (fill b X K) Q) := by
  unfold xsA xs owns
  iintro ⟨%Y, %f, %hf, H⟩ Hk
  iapply (wp_load_rect 𝒱₀ (c : Thread nD τ) none Set.univ (m := xw b) (r := xrect 0) (S := ((xw b).slice (xrect 0) (fun _ => rfl)).view.set) (Finset.Subset.refl _)) $$ H
  iintro H
  iapply (wp_store 𝒱₀ (c : Thread nD τ) none Set.univ (m := xw b) (r := xrect 0) (Mk := Finset.univ) (S := ((xw b).slice (xrect 0) (fun _ => rfl)).view.set) (Finset.Subset.refl _)) $$ H
  iintro H
  iapply Hk
  iexists _; isplitr; rotate_left
  · iexact H
  ipureintro
  exact View.read_write_univ _ _

/-- Telling a neighbour that the device is there: it hands over the slots that the neighbour will write. -/
theorem bar_step (b : Bool) (c : Dev nD) {O₀ : CellTallies nD τ sig ℕ} (O : CellTallies nD τ sig ℕ) (hO : O₀ = O + tallyAt (barc (bwd b c)) 0 1)
    (K : TC F PUnit) {Q : PUnit.{1} → sProp 𝕄} :
    iprop(recs pk wt ∗ dutyTok ER (barc (bwd b c)) 0 b ∗ bigSep (Finset.Ico 1 16) (fun j => xsA (F := F) b j c) ∗ bigSep (Finset.Ico 0 2) (fun k => rsA (F := F) b k c) ∗ owesW c O₀)
      ⊢ iprop((owesW c O -∗ WP c K Q) -∗ WP c (.op (.semSignal (bwd b c, .tc) barS (1#32).toInt) fun _ => K) Q) := by
  unfold owesW
  iintro ⟨#HR, Ht, Hx, Hr, ⟨%W, HO⟩⟩ Hk
  ihave #H1 := (recs_reg pk wt (bwd b c) barS) $$ HR
  unfold known
  icases H1 with ⟨%κ, #HI, #HR1⟩
  iapply (Rounds.wp_signal 𝒱₀ ER (rd pk wt) (c : Thread nD τ) none (dst := (bwd b c : Thread nD τ)) (sem := barS) (κ := κ) (r := 0)
      (d := b) (by rw [duties_bar]; exact Finset.mem_univ _) ((amount_reg pk wt (bwd b c) barS 0 b).trans (by decide)) 0 O hO (W := W))
    $$ [HO Ht Hx Hr]
  · isplitr; · iexact HI
    isplitl [HO]; · iexact HO
    isplitl [Ht]; · iexact Ht
    isplitl [Hx Hr]
    · rw [pay_bar]; unfold payBar; rw [fwd_bwd]
      isplitl [Hx] <;> iassumption
    iexact HR1
  iintro HO
  iapply Hk
  iexists W; iexact HO

/-- Hearing from both neighbours. -/
theorem barWait_step (c : Dev nD) (K : TC F PUnit) {Q : PUnit.{1} → sProp 𝕄} :
    iprop(recs pk wt ∗ atPos ER (barc c) 0 ∅ 0 ∗ cred (tallyAt (barc c) 0 2) ∗ owesW c (due c 0 0 0 0 0 0))
      ⊢ iprop(((payBar (F := F) true c ∗ payBar (F := F) false c ∗ semVal (barc c) 0 ∗ owesW c (due c 0 0 0 0 0 0)) -∗ WP c K Q)
        -∗ WP c (.op (.semWait barS (2#32).toInt) fun _ => K) Q) := by
  unfold owesW
  iintro ⟨#HR, Hat, Hc, ⟨%W, HO⟩⟩ Hk
  ihave #H1 := (recs_reg pk wt c barS) $$ HR
  unfold known
  icases H1 with ⟨%κ, #HI, #HR1⟩
  iapply (Rounds.wp_wait_rest_token 𝒱₀ ER (rd pk wt) (c : Thread nD τ) none (κ := κ)
      (wpE_semWait_eq 𝒱₀ (c : Thread nD τ) none Set.univ) (Set.mem_univ _) 0 (O := due c 0 0 0 0 0 0) (W := W) (R := 0) (m := 0) (T := ∅)
      (by rw [expect_bar]; decide)) $$ [Hc HO Hat]
  · isplitr; · iexact HI
    isplitl [Hc]; · iexact Hc
    isplitl [HO]; · iexact HO
    isplitr; · iapply (recs_lev pk wt (may c 0 0 0 (lv_bar c 0) (by omega) (by omega) (by omega) (by omega))); iexact HR
    iexact Hat
  iintro ⟨HO, Hat, -, Hpay⟩
  ihave Hp := (Entails.of_eq (rest_bar pk wt c)) $$ Hpay
  icases Hp with ⟨Hp1, Hp2⟩
  imod (Rounds.cell_close ER (rd pk wt) (Set.mem_univ κ) (fun h => h) (R := 0 + 1) (fun r hr => duties_bar_later pk wt c r hr)) $$ [Hat] with Hz
  · isplitr; · iexact HI
    iexact Hat
  iapply Hk
  isplitl [Hp1]; · iexact Hp1
  isplitl [Hp2]; · iexact Hp2
  isplitl [Hz]; · iexact Hz
  iexists _; iexact HO

end

/-! ## The result's two halves -/

abbrev rectT : Rect S1024x1024 := Rect.unit (s := S1024x1024) ![0, 0] S512x1024.size inb_S1024x1024_S512x1024_0_0
abbrev rectB : Rect S1024x1024 := Rect.unit (s := S1024x1024) ![512, 0] S512x1024.size inb_S1024x1024_S512x1024_512_0
abbrev oM : Memref sig .tc .vmem S1024x1024 .f32 := Memref.whole cc0_stg4_0

abbrev at2 (r : Fin 512) (l : Fin 1024) : S512x1024.Idx := fun | ⟨0, _⟩ => r | ⟨1, _⟩ => l

/-- The first 512 rows from the one ring, the others from the other. -/
def halves (cR cL : FVec F S512x1024 .f32) : S1024x1024.Idx → Elt F .f32 := fun i =>
  if h : (i 0).val < 512 then cR (at2 ⟨(i 0).val, h⟩ (i 1)) else cL (at2 ⟨(i 0).val - 512, by have : (i 0).val < 1024 := (i 0).isLt; omega⟩ (i 1))

theorem write_halves (f : (cc0_stg4_0 : Ref sig .tc).ty.Contents (Elt F)) (cR cL : FVec F S512x1024 .f32) :
    (oM.access rectB).write (Elt F) ((oM.access rectT).write (Elt F) f cR Finset.univ) cL Finset.univ = halves cR cL := by
  funext i
  have hi : (i 0).val < 1024 := (i 0).isLt
  by_cases h : (i 0).val < 512
  · rw [View.write_of_not_mem]
    · have e : i = (oM.access rectT).emb (at2 ⟨(i 0).val, h⟩ (i 1)) := by
        funext a; apply Fin.ext
        match a with
        | ⟨0, _⟩ => show (i 0).val = 0 + 1 * (i 0).val; omega
        | ⟨1, _⟩ => show (i 1).val = 0 + 1 * (i 1).val; omega
      have h2 := View.write_emb_of_mem (v := oM.access rectT) (Val := Elt F) f cR (M := Finset.univ) (x := at2 ⟨(i 0).val, h⟩ (i 1)) (Finset.mem_univ _)
      rw [← e] at h2
      rw [h2]; unfold halves; rw [dif_pos h]; rfl
    · intro hm
      unfold View.setOn at hm
      rw [Finset.mem_map] at hm
      obtain ⟨x, -, hx⟩ := hm
      have := congrArg (fun j : S1024x1024.Idx => (j 0).val) hx
      have h3 : 512 + 1 * (x 0).val = (i 0).val := this
      omega
  · have e : i = (oM.access rectB).emb (at2 ⟨(i 0).val - 512, by omega⟩ (i 1)) := by
      funext a; apply Fin.ext
      match a with
      | ⟨0, _⟩ => show (i 0).val = 512 + 1 * ((i 0).val - 512); omega
      | ⟨1, _⟩ => show (i 1).val = 0 + 1 * (i 1).val; omega
    have h2 := View.write_emb_of_mem (v := oM.access rectB) (Val := Elt F) ((oM.access rectT).write (Elt F) f cR Finset.univ) cL (M := Finset.univ)
      (x := at2 ⟨(i 0).val - 512, by omega⟩ (i 1)) (Finset.mem_univ _)
    rw [← e] at h2
    rw [h2]; unfold halves; rw [dif_neg h]; rfl

end Cert.Moe
-- ==== Proof.Whole.lean ====
/- The body whole, on one device: its parts put together. -/
module

public import proofs.«01_k».proof.Proof.Body

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A device's operands, as staged. -/
structure Ops (F : FTy → Type) where
  x : S1024x512.Idx → Elt F .bf16
  r : S512x64.Idx → Elt F .bf16
  i : S1024x2.Idx → Elt F .i32
  e : S4x512x1024.Idx → Elt F .bf16

abbrev col0 (v : S1024x2.Idx → Elt F .i32) : S1024x1.Idx → Elt F .i32 :=
  (Memref.whole cc0_stg2_0 : Memref sig .tc .vmem S1024x2 .i32).view.readAt (Elt F) (Rect.unit (s := S1024x2) ![0, 0] S1024x1.size inb_S1024x2_S1024x1_0_0).toLoadRect v
abbrev col1 (v : S1024x2.Idx → Elt F .i32) : S1024x1.Idx → Elt F .i32 :=
  (Memref.whole cc0_stg2_0 : Memref sig .tc .vmem S1024x2 .i32).view.readAt (Elt F) (Rect.unit (s := S1024x2) ![0, 1] S1024x1.size inb_S1024x2_S1024x1_0_1).toLoadRect v

section
variable (o : Dev nD → Ops F)

/-- What device `c` puts in a gather buffer, -/
def pkOf (b : Bool) (c : Dev nD) : S1x512x576.Idx → Elt F .bf16 := pack5 (o c).x (o c).r (col0 (o c).i) (col1 (o c).i) b
/-- its weights, -/
def wtOf (c : Dev nD) : S2048x1024.Idx → Elt F .bf16 := k0_pay7 (o c).e
/-- and its result. -/
def resOf (c : Dev nD) : S1024x1024.Idx → Elt F .f32 := halves (acc (pkOf o) (wtOf o) true 15 c) (acc (pkOf o) (wtOf o) false 15 c)

def start (c : Dev nD) : sProp 𝕄 :=
  iprop(recs (pkOf o) (wtOf o) ∗ atPos ER (barc c) 0 ∅ 0 ∗ cred (tallyAt (barc c) 0 2) ∗ start1 (F := F) true c ∗ start1 (F := F) false c)
def bufs (c : Dev nD) : sProp 𝕄 :=
  iprop((xAll (F := F) true c ∗ sAll (F := F) true c ∗ rAll (F := F) true c) ∗ (xAll (F := F) false c ∗ sAll (F := F) false c ∗ rAll (F := F) false c) ∗ wAll (F := F) c)
def done (c : Dev nD) : sProp 𝕄 := iprop(semVal (barc c) 0 ∗ sems1 (F := F) true c ∗ sems1 (F := F) false c)
def ins (c : Dev nD) : sProp 𝕄 :=
  iprop((((c : Thread nD τ).loc cc0_stg0_0) ↦{fullShare} ((o c).x : Buf (Elt F) ((c : Thread nD τ).loc cc0_stg0_0)))
    ∗ (((c : Thread nD τ).loc cc0_stg1_0) ↦{fullShare} ((o c).r : Buf (Elt F) ((c : Thread nD τ).loc cc0_stg1_0)))
    ∗ (((c : Thread nD τ).loc cc0_stg2_0) ↦{fullShare} ((o c).i : Buf (Elt F) ((c : Thread nD τ).loc cc0_stg2_0)))
    ∗ (((c : Thread nD τ).loc cc0_stg3_0) ↦{fullShare} ((o c).e : Buf (Elt F) ((c : Thread nD τ).loc cc0_stg3_0))))
def res (c : Dev nD) (Y : S1024x1024.Idx → Elt F .f32) : sProp 𝕄 :=
  (((c : Thread nD τ).loc cc0_stg4_0) ↦{fullShare} (Y : Buf (Elt F) ((c : Thread nD τ).loc cc0_stg4_0)) : sProp 𝕄)
def due0 (c : Dev nD) : CellTallies nD τ sig ℕ := due c 0 0 0 0 0 0 + tallyAt (barc (rightOf c)) 0 1 + tallyAt (barc (leftOf c)) 0 1

/-- What is held throughout the hops. -/
def kept (c : Dev nD) : sProp 𝕄 := iprop(semVal (barc c) 0 ∗ rests (F := F) true c ∗ rests (F := F) false c)

theorem hz3 : (![0, 0, 0] : Fin 3 → Nat) = fun _ => 0 := funext fun a => by fin_cases a <;> rfl

theorem head_step (c : Dev nD) (K : TC F PUnit) {Q : PUnit.{1} → sProp 𝕄} :
    iprop(start o c ∗ bufs (F := F) c ∗ owesW c (due0 c) ∗ ins o c)
      ⊢ iprop(((Ring (pkOf o) (wtOf o) c 1 0 0 0 0 0 0 0 0 ∗ kept (F := F) c ∗ ins o c) -∗ WP c K Q)
        -∗ WP c (head (Memref.whole cc0_stg0_0) (Memref.whole cc0_stg1_0) (Memref.whole cc0_stg2_0) (Memref.whole cc0_stg3_0) c K) Q) := by
  unfold start bufs ins start1 head
  iintro ⟨⟨#HR, Hat, Hcb, ⟨T1, T2, T3, T4, T5, T6, T7, T8, T9, T10⟩, ⟨U1, U2, U3, U4, U5, U6, U7, U8, U9, U10⟩⟩, ⟨BR, BL, Hw⟩, HO, ⟨X0, X1, X2, X3⟩⟩ Hk
  ihave BR := (split_bufs true c) $$ BR
  ihave BL := (split_bufs false c) $$ BL
  icases BR with ⟨R1, R2, R3, R4⟩
  icases BL with ⟨L1, L2, L3, L4⟩
  ihave R1 := (Entails.of_eq (pop (show 0 < 16 by omega) (fun j => xsA (F := F) true j c))) $$ R1
  ihave L1 := (Entails.of_eq (pop (show 0 < 16 by omega) (fun j => xsA (F := F) false j c))) $$ L1
  icases R1 with ⟨R0, R1⟩
  icases L1 with ⟨L0, L1⟩
  iapply (bar_step (pkOf o) (wtOf o) true c _ rfl _) $$ [T1 R1 R3 HO]
  · isplitr; · iexact HR
    isplitl [T1]; · iexact T1
    isplitl [R1]; · iexact R1
    isplitl [R3]; · iexact R3
    iexact HO
  iintro HO
  iapply (bar_step (pkOf o) (wtOf o) false c _ rfl _) $$ [U1 L1 L3 HO]
  · isplitr; · iexact HR
    isplitl [U1]; · iexact U1
    isplitl [L1]; · iexact L1
    isplitl [L3]; · iexact L3
    iexact HO
  iintro HO
  iapply (barWait_step (pkOf o) (wtOf o) c _) $$ [Hat Hcb HO]
  · isplitr; · iexact HR
    isplitl [Hat]; · iexact Hat
    isplitl [Hcb]; · iexact Hcb
    iexact HO
  unfold payBar
  iintro ⟨⟨NR1, NR2⟩, ⟨NL1, NL2⟩, Hz, HO⟩
  iapply (wp_load 𝒱₀ (c : Thread nD τ) none Set.univ (m := (Memref.whole cc0_stg0_0 : Memref sig .tc .vmem S1024x512 .bf16)) (Finset.subset_univ _)) $$ X0
  iintro X0
  rw [show (Memref.whole cc0_stg0_0 : Memref sig .tc .vmem S1024x512 .bf16).view.readAt (Elt F) (Rect.unit (s := S1024x512) ![0, 0] S1024x512.size inb_S1024x512_S1024x512_0_0).toLoadRect (o c).x = (o c).x
    from Memref.readAt_unit_zero (Elt F) cc0_stg0_0 hz2 _ _]
  iapply (wp_load 𝒱₀ (c : Thread nD τ) none Set.univ (m := (Memref.whole cc0_stg1_0 : Memref sig .tc .vmem S512x64 .bf16)) (Finset.subset_univ _)) $$ X1
  iintro X1
  rw [show (Memref.whole cc0_stg1_0 : Memref sig .tc .vmem S512x64 .bf16).view.readAt (Elt F) (Rect.unit (s := S512x64) ![0, 0] S512x64.size inb_S512x64_S512x64_0_0).toLoadRect (o c).r = (o c).r
    from Memref.readAt_unit_zero (Elt F) cc0_stg1_0 hz2 _ _]
  iapply (wp_load 𝒱₀ (c : Thread nD τ) none Set.univ (m := (Memref.whole cc0_stg2_0 : Memref sig .tc .vmem S1024x2 .i32)) (Finset.subset_univ _)) $$ X2
  iintro X2
  iapply (wp_load 𝒱₀ (c : Thread nD τ) none Set.univ (m := (Memref.whole cc0_stg2_0 : Memref sig .tc .vmem S1024x2 .i32)) (Finset.subset_univ _)) $$ X2
  iintro X2
  iapply (fill_step true c (pkOf o true c) _) $$ R0
  iintro R0
  iapply (fill_step false c (pkOf o false c) _) $$ L0
  iintro L0
  ihave AR := (AG_begin (pkOf o) true c) $$ [R0 NR1 T2 T3 T4]
  · isplitl [R0]; · iexact R0
    isplitl [NR1]; · iexact NR1
    isplitl [T2]; · iexact T2
    isplitl [T3] <;> iassumption
  ihave AL := (AG_begin (pkOf o) false c) $$ [L0 NL1 U2 U3 U4]
  · isplitl [L0]; · iexact L0
    isplitl [NL1]; · iexact NL1
    isplitl [U2]; · iexact U2
    isplitl [U3] <;> iassumption
  ihave CR := (AC_begin (pkOf o) (wtOf o) true c) $$ [R2 NR2 T5 T6 T7 T8 T9 T10]
  · isplitr; · iexact HR
    isplitl [R2]; · iexact R2
    isplitl [NR2]; · iexact NR2
    isplitl [T5]; · iexact T5
    isplitl [T6]; · iexact T6
    isplitl [T7]; · iexact T7
    isplitl [T8]; · iexact T8
    isplitl [T9] <;> iassumption
  ihave CL := (AC_begin (pkOf o) (wtOf o) false c) $$ [L2 NL2 U5 U6 U7 U8 U9 U10]
  · isplitr; · iexact HR
    isplitl [L2]; · iexact L2
    isplitl [NL2]; · iexact NL2
    isplitl [U5]; · iexact U5
    isplitl [U6]; · iexact U6
    isplitl [U7]; · iexact U7
    isplitl [U8]; · iexact U8
    isplitl [U9] <;> iassumption
  iapply (agSend_step (pkOf o) (wtOf o) c true 0 0 0 (by omega) (by omega) (by omega) _ (due_agR c _ _ _ _ _ _ (by omega)) _) $$ [AR HO]
  · isplitr; · iexact HR
    isplitl [AR] <;> iassumption
  iintro ⟨AR, HO⟩
  iapply (agSend_step (pkOf o) (wtOf o) c false 0 0 0 (by omega) (by omega) (by omega) _ (due_agL c _ _ _ _ _ _ (by omega)) _) $$ [AL HO]
  · isplitr; · iexact HR
    isplitl [AL] <;> iassumption
  iintro ⟨AL, HO⟩
  iapply (wp_load 𝒱₀ (c : Thread nD τ) none Set.univ (m := (Memref.whole cc0_stg3_0 : Memref sig .tc .vmem S4x512x1024 .bf16)) (Finset.subset_univ _)) $$ X3
  iintro X3
  rw [show (Memref.whole cc0_stg3_0 : Memref sig .tc .vmem S4x512x1024 .bf16).view.readAt (Elt F) (Rect.unit (s := S4x512x1024) ![0, 0, 0] S4x512x1024.size inb_S4x512x1024_S4x512x1024_0_0_0).toLoadRect (o c).e = (o c).e
    from Memref.readAt_unit_zero (Elt F) cc0_stg3_0 hz3 _ _]
  unfold wAll
  icases Hw with ⟨%fw, Hw⟩
  iapply (wp_load 𝒱₀ (c : Thread nD τ) none Set.univ (m := ewb) (Finset.subset_univ _)) $$ Hw
  iintro Hw
  iapply (wp_store 𝒱₀ (c : Thread nD τ) none Set.univ (m := ewb) (r := Rect.unit (s := S2048x1024) ![0, 0] S2048x1024.size inb_S2048x1024_S2048x1024_0_0) (Mk := Finset.univ) (Finset.subset_univ _)) $$ Hw
  iintro Hw
  rw [show (ewb.access (Rect.unit (s := S2048x1024) ![0, 0] S2048x1024.size inb_S2048x1024_S2048x1024_0_0)).write (Elt F) fw (k0_pay7 (o c).e) Finset.univ = k0_pay7 (o c).e
    from Memref.write_access_unit_zero_univ (Elt F) cc0_scratch2 hz2 _ fw _]
  iapply Hk
  unfold Ring kept wts
  isplitl [Hw AR AL CR CL HO]
  · isplitr; · iexact HR
    isplitl [Hw]; · iexact Hw
    isplitl [AR]; · iexact AR
    isplitl [AL]; · iexact AL
    isplitl [CR]; · iexact CR
    isplitl [CL] <;> iassumption
  isplitl [Hz R4 L4]
  · isplitl [Hz]; · iexact Hz
    isplitl [R4] <;> iassumption
  isplitl [X0]; · iexact X0
  isplitl [X1]; · iexact X1
  isplitl [X2] <;> iassumption

/-- The last hops, and the result's two halves. -/
theorem late_step (c : Dev nD) (Y : S1024x1024.Idx → Elt F .f32) {Q : PUnit.{1} → sProp 𝕄} :
    iprop(Ring (pkOf o) (wtOf o) c 15 14 13 13 13 12 11 11 12 ∗ res c Y)
      ⊢ iprop(((Ring (pkOf o) (wtOf o) c 15 15 15 15 15 15 15 13 13 ∗ res c (resOf o c)) -∗ Q ⟨⟩)
        -∗ WP c (late (Memref.whole cc0_stg4_0) c (con (pkOf o) (wtOf o) true 14 c) (con (pkOf o) (wtOf o) false 14 c)) Q) := by
  unfold late res
  iintro ⟨H, HY⟩ Hk
  iapply (opA_step _ _ c (by omega) (by omega) (by omega) (by omega) (by omega) _) $$ H; iintro H
  iapply (opB_step _ _ c (by omega) (by omega) _) $$ H; iintro H
  iapply (opC_step _ _ c (by omega) (by omega) (by omega) (by omega) (by omega) (by omega) (by omega) _) $$ H; iintro H
  iapply (opD_step _ _ c (by omega) (by omega) (by omega) (by omega) _) $$ H; iintro H
  iapply (opE_step _ _ c (by omega) (by omega) (by omega) (by omega) (by omega) _) $$ H; iintro H
  iapply (opG_step _ _ c 15 (fun b => slot_fresh _ c b 15 (by omega) (by omega)) _) $$ H; iintro H
  iapply (opA_step _ _ c (by omega) (by omega) (by omega) (by omega) (by omega) _) $$ H; iintro H
  iapply (opC_step _ _ c (by omega) (by omega) (by omega) (by omega) (by omega) (by omega) (by omega) _) $$ H; iintro H
  iapply (opD_step _ _ c (by omega) (by omega) (by omega) (by omega) _) $$ H; iintro H
  iapply (opG_step _ _ c 16 (fun b => slot_own _ c b (by omega)) _) $$ H; iintro H
  iapply (opA_step _ _ c (by omega) (by omega) (by omega) (by omega) (by omega) _) $$ H; iintro H
  iapply (wp_load 𝒱₀ (c : Thread nD τ) none Set.univ (m := oM) (Finset.subset_univ _)) $$ HY
  iintro HY
  iapply (wp_store 𝒱₀ (c : Thread nD τ) none Set.univ (m := oM) (r := rectT) (Mk := Finset.univ) (Finset.subset_univ _)) $$ HY
  iintro HY
  iapply (wp_load 𝒱₀ (c : Thread nD τ) none Set.univ (m := oM) (Finset.subset_univ _)) $$ HY
  iintro HY
  iapply (wp_store 𝒱₀ (c : Thread nD τ) none Set.univ (m := oM) (r := rectB) (Mk := Finset.univ) (Finset.subset_univ _)) $$ HY
  iintro HY
  rw [write_halves]
  unfold Ring
  icases H with ⟨#HR, Hw, A1, A2, A3, A4, HO⟩
  iapply (acSent_step _ _ c true 15 15 15 13 13 13 (by omega) (by omega) (by omega) (may c 15 15 13 (lv_acS true 13 c) (by omega) (by omega) (by omega) (by omega)) _) $$ [A3 HO]
  · isplitr; · iexact HR
    isplitl [A3] <;> iassumption
  iintro ⟨A3, HO⟩
  iapply (acSent_step _ _ c true 15 15 15 14 13 13 (by omega) (by omega) (by omega) (may c 15 15 13 (lv_acS true 14 c) (by omega) (by omega) (by omega) (by omega)) _) $$ [A3 HO]
  · isplitr; · iexact HR
    isplitl [A3] <;> iassumption
  iintro ⟨A3, HO⟩
  iapply (acSent_step _ _ c false 15 15 15 13 13 13 (by omega) (by omega) (by omega) (may c 15 15 13 (lv_acS false 13 c) (by omega) (by omega) (by omega) (by omega)) _) $$ [A4 HO]
  · isplitr; · iexact HR
    isplitl [A4] <;> iassumption
  iintro ⟨A4, HO⟩
  iapply (acSent_step _ _ c false 15 15 15 14 13 13 (by omega) (by omega) (by omega) (may c 15 15 13 (lv_acS false 14 c) (by omega) (by omega) (by omega) (by omega)) _) $$ [A4 HO]
  · isplitr; · iexact HR
    isplitl [A4] <;> iassumption
  iintro ⟨A4, HO⟩
  ihave H : Ring (pkOf o) (wtOf o) c 15 15 13 15 15 15 15 13 13 $$ [Hw A1 A2 A3 A4 HO]
  · unfold Ring
    isplitr; · iexact HR
    isplitl [Hw]; · iexact Hw
    isplitl [A1]; · iexact A1
    isplitl [A2]; · iexact A2
    isplitl [A3]; · iexact A3
    isplitl [A4] <;> iassumption
  iapply (opH_step _ _ c (by omega) (by omega) _) $$ H; iintro H
  iapply (opH_step _ _ c (by omega) (by omega) _) $$ H; iintro H
  unfold WP; rw [wp_ret]
  imodintro
  iapply Hk
  unfold Ring
  isplitl [H]; · iexact H
  iexact HY

/-- The ring state at the end gives everything back. -/
theorem ring_end (c : Dev nD) :
    iprop(Ring (pkOf o) (wtOf o) c 15 15 15 15 15 15 15 13 13 ∗ kept (F := F) c)
      ⊢ |={Set.univ}=> iprop(done (F := F) c ∗ bufs (F := F) c ∗ owesW c 0) := by
  unfold Ring kept
  rw [due_zero]
  iintro ⟨⟨#HR, Hw, A1, A2, A3, A4, HO⟩, ⟨Hz, RR, RL⟩⟩
  ihave A1 := (AG_end (pkOf o) true c) $$ A1
  ihave A2 := (AG_end (pkOf o) false c) $$ A2
  imod (AC_end (pkOf o) (wtOf o) true c) $$ [A3] with ⟨S1, S2, S3, S4, S5⟩
  · isplitr <;> iassumption
  imod (AC_end (pkOf o) (wtOf o) false c) $$ [A4] with ⟨P1, P2, P3, P4, P5⟩
  · isplitr <;> iassumption
  icases A1 with ⟨B1, B2, B3⟩
  icases A2 with ⟨C1, C2, C3⟩
  ihave JR := (join_bufs (F := F) true c) $$ [B1 S1 S2 RR]
  · isplitl [B1]; · iexact B1
    isplitl [S1]; · iexact S1
    isplitl [S2] <;> iassumption
  ihave JL := (join_bufs (F := F) false c) $$ [C1 P1 P2 RL]
  · isplitl [C1]; · iexact C1
    isplitl [P1]; · iexact P1
    isplitl [P2] <;> iassumption
  imodintro
  unfold done bufs sems1 wAll wts
  isplitl [Hz B2 B3 C2 C3 S3 S4 S5 P3 P4 P5]
  · isplitl [Hz]; · iexact Hz
    isplitl [B2 B3 S3 S4 S5]
    · isplitl [B2]; · iexact B2
      isplitl [B3]; · iexact B3
      isplitl [S3]; · iexact S3
      isplitl [S4] <;> iassumption
    · isplitl [C2]; · iexact C2
      isplitl [C3]; · iexact C3
      isplitl [P3]; · iexact P3
      isplitl [P4] <;> iassumption
  isplitl [JR JL Hw]
  · isplitl [JR]; · iexact JR
    isplitl [JL]; · iexact JL
    iexists _; iexact Hw
  iexact HO

theorem body_wp (c : Dev nD) (Y : S1024x1024.Idx → Elt F .f32) {Q : PUnit.{1} → sProp 𝕄} :
    iprop(start o c ∗ bufs (F := F) c ∗ owesW c (due0 c) ∗ ins o c ∗ res c Y)
      ⊢ iprop(((done (F := F) c ∗ bufs (F := F) c ∗ owesW c 0 ∗ ins o c ∗ res c (resOf o c)) -∗ Q ⟨⟩)
        -∗ WP c (text (Memref.whole cc0_stg0_0) (Memref.whole cc0_stg1_0) (Memref.whole cc0_stg2_0) (Memref.whole cc0_stg3_0) (Memref.whole cc0_stg4_0)) Q) := by
  unfold text
  iintro ⟨Hs, Hb, HO, Hi, HY⟩ Hk
  unfold WP; rw [wp_deviceId]
  iapply (head_step o c _) $$ [Hs Hb HO Hi]
  · isplitl [Hs]; · iexact Hs
    isplitl [Hb]; · iexact Hb
    isplitl [HO] <;> iassumption
  iintro ⟨H, Hk', Hi⟩
  iapply (early_step _ _ c _) $$ H; iintro H
  iapply (mids_step _ _ c 11 0 (by omega) _) $$ H; iintro H
  iapply wp_fupd
  iapply (late_step o c Y) $$ [H HY]
  · isplitl [H] <;> iassumption
  iintro ⟨H, HY⟩
  imod (ring_end o c) $$ [H Hk'] with ⟨H1, H2, H3⟩
  · isplitl [H] <;> iassumption
  imodintro
  iapply Hk
  isplitl [H1]; · iexact H1
  isplitl [H2]; · iexact H2
  isplitl [H3]; · iexact H3
  isplitl [Hi] <;> iassumption

end

end Cert.Moe
-- ==== Proof.Deal.lean ====
/- What the launch deals each device, sorted into the families the body counts through. -/
module

public import proofs.«01_k».proof.Proof.Whole

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Runs of numbers -/

theorem ico_split {a b d : ℕ} (h1 : a ≤ b) (h2 : b ≤ d) (Ψ : ℕ → sProp 𝕄) :
    bigSep (Finset.Ico a d) Ψ = iprop(bigSep (Finset.Ico a b) Ψ ∗ bigSep (Finset.Ico b d) Ψ) := by
  rw [← Finset.Ico_union_Ico_eq_Ico h1 h2, bigSep_union (Finset.Ico_disjoint_Ico_consecutive a b d)]; rfl

theorem ico_shift (a N : ℕ) (Ψ : ℕ → sProp 𝕄) : bigSep (Finset.Ico a (a + N)) Ψ = bigSep (Finset.Ico 0 N) (fun h => Ψ (a + h)) := by
  induction N with
  | zero => rw [Nat.add_zero, Finset.Ico_self, Finset.Ico_self, bigSep_empty, bigSep_empty]
  | succ N ih => rw [← Nat.add_assoc, push (by omega), push (Nat.zero_le N), ih]

theorem ico_to (a N : ℕ) (Ψ Θ : ℕ → sProp 𝕄) (h : ∀ k, k < N → Ψ (a + k) = Θ k) :
    bigSep (Finset.Ico a (a + N)) Ψ = bigSep (Finset.Ico 0 N) Θ := by
  rw [ico_shift]; exact bigSep_congr fun k hk => h k (Finset.mem_Ico.mp hk).2

/-- Two rows read alternately. -/
theorem ico_pairs (N : ℕ) (Ψ : ℕ → sProp 𝕄) :
    iprop(bigSep (Finset.Ico 0 N) (fun r => Ψ (2 * r)) ∗ bigSep (Finset.Ico 0 N) (fun r => Ψ (2 * r + 1))) ⊢ bigSep (Finset.Ico 0 (2 * N)) Ψ := by
  induction N with
  | zero => rw [Nat.mul_zero, Finset.Ico_self]; iintro ⟨H, -⟩; iexact H
  | succ N ih =>
    rw [show 2 * (N + 1) = 2 * N + 1 + 1 by omega, push (Nat.zero_le N), push (Nat.zero_le N), push (Nat.zero_le (2 * N + 1)), push (Nat.zero_le (2 * N))]
    iintro ⟨⟨A, B⟩, ⟨C, D⟩⟩
    isplitl [C]; · iexact C
    isplitl [A]; · iexact A
    iapply ih
    isplitl [B] <;> iassumption

/-! ## A device's semaphores -/

/-- By number. -/
def cellAt (c : Dev nD) (n : ℕ) : GSem nD τ sig := cell c (if h : n < 5 then .reg ⟨n, h⟩ else .dma ⟨n % 125, Nat.mod_lt _ (by decide)⟩)

theorem kcell_at (c : Dev nD) (k : Fin 125) : kcell (c, k) = cellAt c k.val := by
  unfold cellAt kcell; simp only [Nat.mod_eq_of_lt k.isLt]

theorem cellAt_dma (c : Dev nD) (q : DmaSem sig) (n : ℕ) (h : q.val = n) (h5 : 5 ≤ n) : cellAt c n = cell c (.dma q) := by
  subst h
  unfold cellAt; rw [dif_neg (by omega)]
  have : (⟨q.val % 125, Nat.mod_lt _ (by decide)⟩ : Fin 125) = q := Fin.ext (Nat.mod_eq_of_lt q.isLt)
  exact congrArg (fun q => cell c (.dma q)) this
theorem cellAt_reg (c : Dev nD) (q : Sem sig) (n : ℕ) (h : q.val = n) : cellAt c n = cell c (.reg q) := by
  subst h
  have : q.val < 5 := q.isLt
  unfold cellAt; rw [dif_pos this]

/-- One direction's, and all of them. -/
def fam (Φ : GSem nD τ sig → sProp 𝕄) (b : Bool) (c : Dev nD) : sProp 𝕄 :=
  iprop(bigSep (Finset.Ico 0 15) (fun h => Φ (agVc b h c)) ∗ bigSep (Finset.Ico 0 15) (fun h => Φ (agSc b h c))
    ∗ bigSep (Finset.Ico 0 15) (fun h => Φ (acVc b h c)) ∗ bigSep (Finset.Ico 0 15) (fun h => Φ (acSc b h c))
    ∗ bigSep (Finset.Ico 0 2) (fun k => Φ (crc b k c)))
def fams (Φ : GSem nD τ sig → sProp 𝕄) (c : Dev nD) : sProp 𝕄 := iprop(Φ (barc c) ∗ fam Φ true c ∗ fam Φ false c)

theorem low_eq (Φ : GSem nD τ sig → sProp 𝕄) (c : Dev nD) :
    bigSep (Finset.Ico 0 4) (fun n => Φ (cellAt c n)) = iprop(bigSep (Finset.Ico 0 2) (fun k => Φ (crc true k c)) ∗ bigSep (Finset.Ico 0 2) (fun k => Φ (crc false k c))) := by
  rw [ico_split (show 0 ≤ 2 by omega) (show 2 ≤ 4 by omega), show Finset.Ico 2 4 = Finset.Ico 2 (2 + 2) from rfl, ico_to 2 2 _ (fun k => Φ (crc false k c))]
  · rw [bigSep_congr (s := Finset.Ico 0 2) (Ψ := fun k => Φ (crc true k c))]
    intro k hk
    have := (Finset.mem_Ico.mp hk).2
    exact congrArg Φ (cellAt_reg c _ _ (by rw [crS_val]; simp only [if_true]; omega))
  · intro k hk
    exact congrArg Φ (cellAt_reg c _ _ (by rw [crS_val, if_neg (by decide)]; omega))

theorem high_eq (Φ : GSem nD τ sig → sProp 𝕄) (c : Dev nD) :
    bigSep (Finset.Ico 5 125) (fun n => Φ (cellAt c n))
      = iprop(bigSep (Finset.Ico 0 15) (fun h => Φ (agSc true h c)) ∗ bigSep (Finset.Ico 0 15) (fun h => Φ (agVc true h c))
        ∗ bigSep (Finset.Ico 0 15) (fun h => Φ (agSc false h c)) ∗ bigSep (Finset.Ico 0 15) (fun h => Φ (agVc false h c))
        ∗ bigSep (Finset.Ico 0 15) (fun h => Φ (acSc true h c)) ∗ bigSep (Finset.Ico 0 15) (fun h => Φ (acVc true h c))
        ∗ bigSep (Finset.Ico 0 15) (fun h => Φ (acSc false h c)) ∗ bigSep (Finset.Ico 0 15) (fun h => Φ (acVc false h c))) := by
  have key (a : ℕ) (q : ℕ → DmaSem sig) (h5 : 5 ≤ a) (hq : ∀ h, h < 15 → (q h).val = a + h) :
      bigSep (Finset.Ico a (a + 15)) (fun n => Φ (cellAt c n)) = bigSep (Finset.Ico 0 15) (fun h => Φ (cell c (.dma (q h)))) :=
    ico_to a 15 _ _ fun k hk => congrArg Φ (cellAt_dma c _ _ (hq k hk) (by omega))
  rw [ico_split (show 5 ≤ 5 + 15 by omega) (show 5 + 15 ≤ 125 by omega), ico_split (show 20 ≤ 20 + 15 by omega) (show 20 + 15 ≤ 125 by omega),
    ico_split (show 35 ≤ 35 + 15 by omega) (show 35 + 15 ≤ 125 by omega), ico_split (show 50 ≤ 50 + 15 by omega) (show 50 + 15 ≤ 125 by omega),
    ico_split (show 65 ≤ 65 + 15 by omega) (show 65 + 15 ≤ 125 by omega), ico_split (show 80 ≤ 80 + 15 by omega) (show 80 + 15 ≤ 125 by omega),
    ico_split (show 95 ≤ 95 + 15 by omega) (show 95 + 15 ≤ 125 by omega), show Finset.Ico (95 + 15) 125 = Finset.Ico 110 (110 + 15) from rfl,
    key 5 (agS true) (by omega) (fun h hh => by rw [agS_val]; simp [dirO]; omega), key 20 (agV true) (by omega) (fun h hh => by rw [agV_val]; simp [dirO]; omega),
    key 35 (agS false) (by omega) (fun h hh => by rw [agS_val]; simp [dirO]; omega), key 50 (agV false) (by omega) (fun h hh => by rw [agV_val]; simp [dirO]; omega),
    key 65 (acS true) (by omega) (fun h hh => by rw [acS_val]; simp [dirO]; omega), key 80 (acV true) (by omega) (fun h hh => by rw [acV_val]; simp [dirO]; omega),
    key 95 (acS false) (by omega) (fun h hh => by rw [acS_val]; simp [dirO]; omega), key 110 (acV false) (by omega) (fun h hh => by rw [acV_val]; simp [dirO]; omega)]

theorem bar_at (c : Dev nD) : cellAt c 4 = barc c := cellAt_reg c _ _ barS_val

theorem parts_fams (Φ : GSem nD τ sig → sProp 𝕄) (c : Dev nD) :
    iprop((bigSep (Finset.Ico 0 4) (fun n => Φ (cellAt c n)) ∗ bigSep (Finset.Ico 5 125) (fun n => Φ (cellAt c n))) ∗ Φ (barc c)) ⊢ fams Φ c := by
  unfold fams fam
  rw [low_eq, high_eq]
  iintro ⟨⟨⟨A1, A2⟩, B1, B2, B3, B4, B5, B6, B7, B8⟩, C⟩
  isplitl [C]; · iexact C
  isplitl [A1 B1 B2 B5 B6]
  · isplitl [B2]; · iexact B2
    isplitl [B1]; · iexact B1
    isplitl [B6]; · iexact B6
    isplitl [B5] <;> iassumption
  · isplitl [B4]; · iexact B4
    isplitl [B3]; · iexact B3
    isplitl [B8]; · iexact B8
    isplitl [B7] <;> iassumption

theorem fams_parts (Φ : GSem nD τ sig → sProp 𝕄) (c : Dev nD) :
    fams Φ c ⊢ iprop((bigSep (Finset.Ico 0 4) (fun n => Φ (cellAt c n)) ∗ bigSep (Finset.Ico 5 125) (fun n => Φ (cellAt c n))) ∗ Φ (barc c)) := by
  unfold fams fam
  rw [low_eq, high_eq]
  iintro ⟨C, ⟨B2, B1, B6, B5, A1⟩, ⟨B4, B3, B8, B7, A2⟩⟩
  isplitr [C]
  · isplitl [A1 A2]
    · isplitl [A1] <;> iassumption
    isplitl [B1]; · iexact B1
    isplitl [B2]; · iexact B2
    isplitl [B3]; · iexact B3
    isplitl [B4]; · iexact B4
    isplitl [B5]; · iexact B5
    isplitl [B6]; · iexact B6
    isplitl [B7] <;> iassumption
  iexact C

theorem all_parts (Φ : GSem nD τ sig → sProp 𝕄) (c : Dev nD) : bigSep Finset.univ (fun k : Fin 125 => Φ (kcell (c, k)))
    = iprop(bigSep (Finset.Ico 0 4) (fun n => Φ (cellAt c n)) ∗ Φ (barc c) ∗ bigSep (Finset.Ico 5 125) (fun n => Φ (cellAt c n))) := by
  simp only [kcell_at]
  rw [bigSep_fin 125 (fun n => Φ (cellAt c n)), ico_split (show 0 ≤ 4 by omega) (show 4 ≤ 125 by omega), pop (show 4 < 125 by omega), bar_at]

theorem all_fams (Φ : GSem nD τ sig → sProp 𝕄) (c : Dev nD) : bigSep Finset.univ (fun k : Fin 125 => Φ (kcell (c, k))) ⊢ fams Φ c := by
  rw [all_parts]
  iintro ⟨A, B, C⟩
  iapply (parts_fams Φ c)
  isplitl [A C]
  · isplitl [A] <;> iassumption
  iexact B

/-! ## Those the launch counts as the kernel's own -/

abbrev osem : Fin 4 ⊕ Fin 120 → SemLoc sig := Sum.elim (fun k => .reg ⟨k.val, lt_trans k.isLt (by decide)⟩) (fun k => .dma ⟨5 + k.val, by have := k.isLt; show 5 + k.val < 125; omega⟩)

theorem own_eq (c : Dev nD) : (Pipeline.ownSems0 (Ix := ℕ) (Name := ℕ) (U := UU) (Lvl := ℕ) (Val := Elt F) (τ := τ) osem c : sProp 𝕄)
    = iprop(bigSep (Finset.Ico 0 4) (fun n => semVal (cellAt c n) 0) ∗ bigSep (Finset.Ico 5 125) (fun n => semVal (cellAt c n) 0)) := by
  unfold Pipeline.ownSems0
  rw [bigSep_univ_sum, show Finset.Ico 5 125 = Finset.Ico 5 (5 + 120) from rfl, ico_shift, ← bigSep_fin 4 (fun n => semVal (cellAt c n) 0),
    ← bigSep_fin 120 (fun n => semVal (cellAt c (5 + n)) 0)]
  have h1 : ∀ k : Fin 4, (semVal (cellAt c k.val) 0 : sProp 𝕄) = semVal ((c.tc : Thread nD τ), osem (.inl k)) 0 := fun k => by
    rw [cellAt_reg c ⟨k.val, lt_trans k.isLt (by decide)⟩ _ rfl]; rfl
  have h2 : ∀ k : Fin 120, (semVal (cellAt c (5 + k.val)) 0 : sProp 𝕄) = semVal ((c.tc : Thread nD τ), osem (.inr k)) 0 := fun k => by
    rw [cellAt_dma c ⟨5 + k.val, by have := k.isLt; show 5 + k.val < 125; omega⟩ _ rfl (Nat.le_add_right _ _)]; rfl
  simp only [h1, h2]
  rfl

theorem unscoped_eq (c : Dev nD) : (unscopedSems0 c : sProp 𝕄) = semVal (barc c) 0 := by
  unfold unscopedSems0; rw [bigSep_eq_bigSepL_of_eq [SemLoc.reg barS] (by decide) (by decide)]; rfl

theorem own_all (c : Dev nD) : iprop(Pipeline.ownSems0 (Ix := ℕ) (Name := ℕ) (U := UU) (Lvl := ℕ) (Val := Elt F) (τ := τ) osem c ∗ unscopedSems0 c)
    ⊢ (bigSep Finset.univ (fun k : Fin 125 => semVal (kcell (c, k)) 0) : sProp 𝕄) := by
  rw [own_eq, unscoped_eq, all_parts (fun g => semVal g 0)]
  iintro ⟨⟨A, B⟩, C⟩
  isplitl [A]; · iexact A
  isplitl [C] <;> iassumption

theorem ownSemFacts : Pipeline.OwnSemFacts cfg0.spec osem := by decide

theorem kcell_injective : Function.Injective (kcell : Dev nD × Fin 125 → GSem nD τ sig) := by
  rintro ⟨c, k⟩ ⟨c', k'⟩ h
  have h1 : c = c' := by have := congrArg (fun g : GSem nD τ sig => g.1.1) h; exact this
  subst h1
  have h2 := congrArg Prod.snd h
  dsimp only [kcell] at h2
  have : k.val = k'.val := by
    split at h2 <;> split at h2
    · exact congrArg (fun s : Sem sig => s.val) (SemLoc.reg.inj h2)
    · cases h2
    · cases h2
    · exact congrArg (fun s : DmaSem sig => s.val) (SemLoc.dma.inj h2)
  rw [Fin.ext this]

end Cert.Moe
-- ==== Proof.Launch.lean ====
/- The launch: semaphores and tokens dealt to the devices, and the run. -/
module

public import proofs.«01_k».proof.Proof.Deal

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## Tokens -/

/-- Tokens for a semaphore's first seven rounds. -/
def toks (g : GSem nD τ sig) : sProp 𝕄 := bigSep (Finset.Ico 0 7) (fun r => bigSep Finset.univ (fun d : Bool => dutyTok ER g r d))

theorem toks_row (g : GSem nD τ sig) (d : Bool) : (toks g : sProp 𝕄) ⊢ bigSep (Finset.Ico 0 7) (fun r => dutyTok ER g r d) :=
  bigSep_mono fun r _ => bigSep_elim (Finset.mem_univ d)
theorem toks_first (g : GSem nD τ sig) : (toks g : sProp 𝕄) ⊢ dutyTok ER g 0 true :=
  (toks_row g true).trans (bigSep_elim (Finset.mem_Ico.mpr ⟨le_refl 0, by decide⟩))
theorem toks_both (g : GSem nD τ sig) : (toks g : sProp 𝕄) ⊢ iprop(dutyTok ER g 0 true ∗ dutyTok ER g 0 false) := by
  have h : (toks g : sProp 𝕄) ⊢ bigSep Finset.univ (fun d : Bool => dutyTok ER g 0 d) := bigSep_elim (Finset.mem_Ico.mpr ⟨le_refl 0, by decide⟩)
  rw [bigSep_univ_eq_bigSepL [true, false] (by decide) (by decide), bigSepL_cons_cons, bigSepL_singleton] at h
  exact h

theorem toks_cr (b : Bool) (c : Dev nD) : (bigSep (Finset.Ico 0 2) (fun k => toks (crc b k c)) : sProp 𝕄)
    ⊢ bigSep (Finset.Ico 0 13) (fun j => dutyTok ER (crc b j c) (j / 2) true) := by
  have e : ∀ i r : ℕ, i < 2 → (dutyTok ER (crc b i c) r true : sProp 𝕄) = dutyTok ER (crc b (2 * r + i) c) ((2 * r + i) / 2) true := fun i r hi => by
    rw [show (2 * r + i) / 2 = r by omega, show crc b (2 * r + i) c = crc b i c from congrArg (fun q => cell c (.reg q)) (by
      rw [← crS_mod b (2 * r + i), show (2 * r + i) % 2 = i by omega])]
  have h0 : (toks (crc b 0 c) : sProp 𝕄) ⊢ bigSep (Finset.Ico 0 7) (fun r => dutyTok ER (crc b (2 * r) c) ((2 * r) / 2) true) :=
    (toks_row _ true).trans (Entails.of_eq (bigSep_congr fun r _ => e 0 r (by decide)))
  have h1 : (toks (crc b 1 c) : sProp 𝕄) ⊢ bigSep (Finset.Ico 0 7) (fun r => dutyTok ER (crc b (2 * r + 1) c) ((2 * r + 1) / 2) true) :=
    (toks_row _ true).trans (Entails.of_eq (bigSep_congr fun r _ => e 1 r (by decide)))
  rw [pop (show 0 < 2 by decide), pop (show 0 + 1 < 2 by decide)]
  iintro ⟨A, B, -⟩
  ihave A := h0 $$ A
  ihave B := h1 $$ B
  ihave H := (ico_pairs 7 (fun j => dutyTok ER (crc b j c) (j / 2) true)) $$ [A B]
  · isplitl [A] <;> iassumption
  ihave H := (Entails.of_eq (push (show 0 ≤ 13 by decide) (fun j => (dutyTok ER (crc b j c) (j / 2) true : sProp 𝕄)))) $$ H
  icases H with ⟨-, H⟩
  iexact H

/-- The tokens of a device's own semaphores in one direction, -/
def deal (b : Bool) (c : Dev nD) : sProp 𝕄 :=
  iprop(dutyTok ER (barc c) 0 b ∗ bigSep (Finset.Ico 0 15) (fun h => dutyTok ER (agSc b h c) 0 true) ∗ bigSep (Finset.Ico 0 15) (fun h => dutyTok ER (agVc b h c) 0 true)
    ∗ bigSep (Finset.Ico 0 15) (fun h => dutyTok ER (acSc b h c) 0 true) ∗ bigSep (Finset.Ico 0 15) (fun h => dutyTok ER (acVc b h c) 0 true)
    ∗ bigSep (Finset.Ico 0 13) (fun j => dutyTok ER (crc b j c) (j / 2) true))
/-- and of those it pays. -/
def pays (b : Bool) (c : Dev nD) : sProp 𝕄 :=
  iprop(dutyTok ER (barc (bwd b c)) 0 b ∗ bigSep (Finset.Ico 0 15) (fun h => dutyTok ER (agSc b h c) 0 true) ∗ bigSep (Finset.Ico 0 15) (fun h => dutyTok ER (agVc b h (fwd b c)) 0 true)
    ∗ bigSep (Finset.Ico 0 15) (fun h => dutyTok ER (acSc b h c) 0 true) ∗ bigSep (Finset.Ico 0 15) (fun h => dutyTok ER (acVc b h (fwd b c)) 0 true)
    ∗ bigSep (Finset.Ico 0 13) (fun j => dutyTok ER (crc b j (bwd b c)) (j / 2) true))

theorem deal_intro (c : Dev nD) : fams toks c ⊢ iprop(deal (F := F) true c ∗ deal (F := F) false c) := by
  have hm : ∀ q : ℕ → GSem nD τ sig, (bigSep (Finset.Ico 0 15) (fun h => toks (q h)) : sProp 𝕄) ⊢ bigSep (Finset.Ico 0 15) (fun h => dutyTok ER (q h) 0 true) :=
    fun q => bigSep_mono fun h _ => toks_first (q h)
  unfold fams fam deal
  iintro ⟨A, ⟨B1, B2, B3, B4, B5⟩, ⟨C1, C2, C3, C4, C5⟩⟩
  ihave A := (toks_both (barc c)) $$ A
  icases A with ⟨A1, A2⟩
  isplitl [A1 B1 B2 B3 B4 B5]
  · isplitl [A1]; · iexact A1
    isplitl [B2]; · iapply (hm fun h => agSc true h c); iexact B2
    isplitl [B1]; · iapply (hm fun h => agVc true h c); iexact B1
    isplitl [B4]; · iapply (hm fun h => acSc true h c); iexact B4
    isplitl [B3]; · iapply (hm fun h => acVc true h c); iexact B3
    iapply (toks_cr true c); iexact B5
  · isplitl [A2]; · iexact A2
    isplitl [C2]; · iapply (hm fun h => agSc false h c); iexact C2
    isplitl [C1]; · iapply (hm fun h => agVc false h c); iexact C1
    isplitl [C4]; · iapply (hm fun h => acSc false h c); iexact C4
    isplitl [C3]; · iapply (hm fun h => acVc false h c); iexact C3
    iapply (toks_cr false c); iexact C5

theorem around (b : Bool) : (bigSep Finset.univ (deal (F := F) b) : sProp 𝕄) = bigSep Finset.univ (pays b) := by
  unfold deal pays
  rw [bigSep_sep', bigSep_sep', bigSep_sep', bigSep_sep', bigSep_sep', bigSep_sep', bigSep_sep', bigSep_sep', bigSep_sep', bigSep_sep',
    bigSep_univ_equiv (turn b).symm (fun c : Dev nD => (dutyTok ER (barc c) 0 b : sProp 𝕄)),
    bigSep_univ_equiv (turn b) (fun c : Dev nD => (bigSep (Finset.Ico 0 15) (fun h => dutyTok ER (agVc b h c) 0 true) : sProp 𝕄)),
    bigSep_univ_equiv (turn b) (fun c : Dev nD => (bigSep (Finset.Ico 0 15) (fun h => dutyTok ER (acVc b h c) 0 true) : sProp 𝕄)),
    bigSep_univ_equiv (turn b).symm (fun c : Dev nD => (bigSep (Finset.Ico 0 13) (fun j => dutyTok ER (crc b j c) (j / 2) true) : sProp 𝕄))]
  rfl

/-! ## Credits -/

theorem cred_one (e : Dev nD ≃ Dev nD) (sm : SemLoc sig) (i n : ℕ) (c : Dev nD) :
    (Pipeline.launchCred (fun d => tallyAt (cell (e d) sm) i n) c : sProp 𝕄) ⊢ cred (tallyAt (cell c sm) i n) := by
  refine (Pipeline.launchCred_elim _ c sm).trans (Entails.of_eq (congrArg cred ?_))
  unfold tallyAt
  refine congrArg _ (Finsupp.ext fun u => ?_)
  rw [Pipeline.launchCredit_owing, Fintype.sum_eq_single (e.symm c)]
  · rw [Equiv.apply_symm_apply]; exact congrFun (congrArg DFunLike.coe (tallyOn_self _ _)) u
  · intro d hd
    have : cell c sm ≠ cell (e d) sm := fun h => hd (by
      have : c = e d := congrArg (fun g : GSem nD τ sig => g.1.1) h
      rw [this, Equiv.symm_apply_apply])
    exact congrFun (congrArg DFunLike.coe (tallyAt_ne_cell this i n)) u

theorem cred_sum (f : ℕ → Dev nD → CellTallies nD τ sig ℕ) (N : ℕ) (c : Dev nD) :
    (Pipeline.launchCred (fun d => ∑ h ∈ Finset.Ico 0 N, f h d) c : sProp 𝕄) ⊢ bigSep (Finset.Ico 0 N) (fun h => Pipeline.launchCred (f h) c) := by
  induction N with
  | zero => rw [Finset.Ico_self, bigSep_empty]; iintro -; iempintro
  | succ N ih =>
    have : (fun d => ∑ h ∈ Finset.Ico 0 (N + 1), f h d) = fun d => (∑ h ∈ Finset.Ico 0 N, f h d) + f N d :=
      funext fun d => by rw [ico_right (Nat.zero_le N), Finset.sum_insert (by simp), add_comm]
    rw [this, Pipeline.launchCred_add, push (Nat.zero_le N)]
    iintro ⟨A, B⟩
    isplitl [B]; · iexact B
    iapply ih; iexact A

def creds (b : Bool) (c : Dev nD) : sProp 𝕄 :=
  iprop(bigSep (Finset.Ico 0 15) (fun h => cred (tallyAt (agVc b h c) 0 N1)) ∗ bigSep (Finset.Ico 0 15) (fun h => cred (tallyAt (acVc b h c) 0 N2))
    ∗ bigSep (Finset.Ico 0 13) (fun j => cred (tallyAt (crc b j c) (j / 2) 1)))

theorem credAg (b : Bool) (c : Dev nD) : (Pipeline.launchCred (fun d => dueAg d b 0) c : sProp 𝕄) ⊢ bigSep (Finset.Ico 0 15) (fun h => cred (tallyAt (agVc b h c) 0 N1)) :=
  (cred_sum (fun h d => tallyAt (agVc b h (fwd b d)) 0 N1) 15 c).trans (bigSep_mono fun h _ => cred_one (turn b) (.dma (agV b h)) 0 N1 c)
theorem credAc (b : Bool) (c : Dev nD) : (Pipeline.launchCred (fun d => dueAc d b 0) c : sProp 𝕄) ⊢ bigSep (Finset.Ico 0 15) (fun h => cred (tallyAt (acVc b h c) 0 N2)) :=
  (cred_sum (fun h d => tallyAt (acVc b h (fwd b d)) 0 N2) 15 c).trans (bigSep_mono fun h _ => cred_one (turn b) (.dma (acV b h)) 0 N2 c)
theorem credCr (b : Bool) (c : Dev nD) : (Pipeline.launchCred (fun d => dueCr d b 0) c : sProp 𝕄) ⊢ bigSep (Finset.Ico 0 13) (fun j => cred (tallyAt (crc b j c) (j / 2) 1)) :=
  (cred_sum (fun j d => tallyAt (crc b j (bwd b d)) (j / 2) 1) 13 c).trans (bigSep_mono fun j _ => cred_one (turn b).symm (.reg (crS b j)) (j / 2) 1 c)

theorem creds_intro (c : Dev nD) : (Pipeline.launchCred due0 c : sProp 𝕄) ⊢ iprop(cred (tallyAt (barc c) 0 2) ∗ creds (F := F) true c ∗ creds (F := F) false c) := by
  have e : (due0 : Dev nD → CellTallies nD τ sig ℕ) = fun d => (dueAg d true 0 + dueAg d false 0 + (dueAc d true 0 + dueAc d false 0) + (dueCr d true 0 + dueCr d false 0))
      + tallyAt (barc (rightOf d)) 0 1 + tallyAt (barc (leftOf d)) 0 1 := rfl
  have h2 : (cred (tallyAt (barc c) 0 1 : CellTallies nD τ sig ℕ) : sProp 𝕄) ∗ cred (tallyAt (barc c) 0 1) ⊢ cred (tallyAt (barc c) 0 2) := by
    refine (cred_add _ _).2.trans (Entails.of_eq (congrArg cred ?_))
    rw [tallyAt_add]
  rw [e]
  simp only [Pipeline.launchCred_add]
  unfold creds
  iintro ⟨⟨⟨⟨⟨A1, A2⟩, ⟨B1, B2⟩⟩, ⟨C1, C2⟩⟩, D1⟩, D2⟩
  have d1 : (Pipeline.launchCred (fun d => tallyAt (barc (rightOf d)) 0 1) c : sProp 𝕄) ⊢ cred (tallyAt (barc c) 0 1) := cred_one (turn true) (.reg barS) 0 1 c
  have d2 : (Pipeline.launchCred (fun d => tallyAt (barc (leftOf d)) 0 1) c : sProp 𝕄) ⊢ cred (tallyAt (barc c) 0 1) := cred_one (turn false) (.reg barS) 0 1 c
  ihave D1 := d1 $$ D1
  ihave D2 := d2 $$ D2
  isplitl [D1 D2]
  · iapply h2; isplitl [D1] <;> iassumption
  isplitl [A1 B1 C1]
  · isplitl [A1]; · iapply (credAg true c); iexact A1
    isplitl [B1]; · iapply (credAc true c); iexact B1
    iapply (credCr true c); iexact C1
  · isplitl [A2]; · iapply (credAg false c); iexact A2
    isplitl [B2]; · iapply (credAc false c); iexact B2
    iapply (credCr false c); iexact C2

end Cert.Moe
-- ==== Proof.Main.lean ====
/- The run of @main, for any float values. -/
module

public import proofs.«01_k».proof.Proof.Launch
public import Idealize.ShloMosaic.Lib.Pipeline.CollectiveSegs
public import Idealize.ShloMosaic.Lib.SparseCore.Launch

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The ghost state dealt -/

def allCells : Finset (GSem nD τ sig) := Finset.univ.map ⟨kcell, kcell_injective⟩
def allToks : Finset (GSem nD τ sig × ℕ × Bool) := allCells ×ˢ (Finset.Ico 0 7 ×ˢ Finset.univ)

def u₀ : UU := (initOf (Pipeline.cells cfgs cellOf_inj) (Pipeline.launchToks cfgs cellOf_inj), initOf allCells allToks)

section
variable (o : Dev nD → Ops F)

def own1 (Φ : GSem nD τ sig → sProp 𝕄) (c : Dev nD) : sProp 𝕄 := bigSep Finset.univ (fun k : Fin 125 => Φ (kcell (c, k)))

def G (c : Dev nD) : sProp 𝕄 :=
  iprop(own1 (fun g => roundState ER (rd (pkOf o) (wtOf o)) g 0) c ∗ own1 (fun g => reached ER g 0) c ∗ own1 (fun g => atPos ER g 0 ∅ 0) c ∗ own1 toks c)

def knowAll : sProp 𝕄 := bigSep Finset.univ (fun p : Dev nD × Fin 125 => known (pkOf o) (wtOf o) (kcell p))
instance knowAll_persistent : BI.Persistent (knowAll o) := by unfold knowAll; infer_instance

def G' (c : Dev nD) : sProp 𝕄 := iprop(knowAll o ∗ fams (fun g => atPos ER g 0 ∅ 0) c ∗ pays (F := F) true c ∗ pays (F := F) false c)

theorem fund_all : BI.own (ER (initOf allCells allToks)) ⊢ (|==> bigSep Finset.univ (G o) : sProp 𝕄) := by
  have hX (Φ : GSem nD τ sig → sProp 𝕄) : bigSep allCells Φ = bigSep Finset.univ (own1 Φ) := by
    unfold allCells; rw [bigSep_map, bigSep_univ_prod]; rfl
  have hT : bigSep allToks (fun x => (dutyTok ER x.1 x.2.1 x.2.2 : sProp 𝕄)) = bigSep Finset.univ (own1 toks) := by
    unfold allToks; rw [SparseCore.bigSep_product, ← hX]
    exact bigSep_congr fun g _ => SparseCore.bigSep_product _ _ _
  unfold G
  rw [bigSep_sep', bigSep_sep', bigSep_sep', ← hX, ← hX, ← hX, ← hT]
  exact Rounds.fund ER (rd (pkOf o) (wtOf o)) allCells allToks

theorem core_alloc (c : Dev nD) :
    iprop(Pipeline.ownSems0 (Ix := ℕ) (Name := ℕ) (U := UU) (Lvl := ℕ) (Val := Elt F) (τ := τ) osem c ∗ unscopedSems0 c ∗ G o c)
      ⊢ |={Set.univ}=> iprop(own1 (known (pkOf o) (wtOf o)) c ∗ fams (fun g => atPos ER g 0 ∅ 0) c ∗ deal (F := F) true c ∗ deal (F := F) false c) := by
  unfold G
  iintro ⟨Hos, Hus, Hst, Hr, Hat, Htok⟩
  ihave Hv := (own_all (F := F) c) $$ [Hos Hus]
  · isplitl [Hos] <;> iassumption
  imod (show iprop(bigSep Finset.univ (fun k : Fin 125 => semVal (kcell (c, k)) 0) ∗ own1 (fun g => roundState ER (rd (pkOf o) (wtOf o)) g 0) c)
      ⊢ (|={Set.univ}=> own1 (fun g => iprop(∃ κ : ℕ, cellInv ER (rd (pkOf o) (wtOf o)) κ g)) c : sProp 𝕄) from by
        unfold own1
        rw [← bigSep_sep']
        exact (bigSep_mono fun k _ => (Rounds.body_intro ER (rd (pkOf o) (wtOf o)) (kcell (c, k))).trans inv_alloc).trans (bigSep_fupd _ _)) $$ [Hv Hst] with Hinv
  · isplitl [Hv] <;> iassumption
  imodintro
  isplitl [Hinv Hr]
  · have hk : iprop(own1 (fun g => iprop(∃ κ : ℕ, cellInv ER (rd (pkOf o) (wtOf o)) κ g)) c ∗ own1 (fun g => reached ER g 0) c) ⊢ own1 (known (pkOf o) (wtOf o)) c := by
      unfold own1
      rw [← bigSep_sep']
      exact bigSep_mono fun k _ => by
        show iprop((∃ κ : ℕ, cellInv ER (rd (pkOf o) (wtOf o)) κ (kcell (c, k))) ∗ reached ER (kcell (c, k)) 0) ⊢ known (pkOf o) (wtOf o) (kcell (c, k))
        unfold known
        iintro ⟨⟨%κ, H⟩, H'⟩
        iexists κ
        isplitl [H] <;> iassumption
    iapply hk
    isplitl [Hinv] <;> iassumption
  isplitl [Hat]
  · iapply (all_fams (fun g => atPos ER g 0 ∅ 0) c); unfold own1; iexact Hat
  iapply (deal_intro (F := F) c)
  iapply (all_fams toks c); unfold own1; iexact Htok

theorem with_persistent {I : Type} [DecidableEq I] {S : Finset I} {R : sProp 𝕄} [BI.Persistent R] (Φ : I → sProp 𝕄) :
    iprop(R ∗ bigSep S Φ) ⊢ bigSep S (fun i => iprop(R ∗ Φ i)) := by
  rw [bigSep_sep']
  exact sep_mono_left (BI.bigSep_of_persistent S R)

theorem regroup : (bigSep Finset.univ fun c : Dev nD => iprop(own1 (known (pkOf o) (wtOf o)) c ∗ fams (fun g => atPos ER g 0 ∅ 0) c ∗ deal (F := F) true c ∗ deal (F := F) false c) : sProp 𝕄)
    ⊢ bigSep Finset.univ (G' o) := by
  have hk : (bigSep Finset.univ (own1 (known (pkOf o) (wtOf o))) : sProp 𝕄) = knowAll o := by
    unfold knowAll; rw [bigSep_univ_prod]; rfl
  have hw := with_persistent (S := (Finset.univ : Finset (Dev nD))) (R := knowAll o)
    (fun c => iprop(fams (fun g => atPos ER g 0 ∅ 0) c ∗ pays (F := F) true c ∗ pays (F := F) false c))
  rw [bigSep_sep', bigSep_sep', bigSep_sep', hk, around true, around false]
  rw [bigSep_sep' Finset.univ (fams (fun g => atPos ER g 0 ∅ 0)), bigSep_sep' Finset.univ (pays (F := F) true)] at hw
  exact hw

theorem glob : (bigSep Finset.univ fun c => iprop(Pipeline.ownSems0 (Ix := ℕ) (Name := ℕ) (U := UU) (Lvl := ℕ) (Val := Elt F) (τ := τ) osem c ∗ unscopedSems0 c ∗ G o c) : sProp 𝕄)
    ⊢ |={Set.univ}=> bigSep Finset.univ (G' o) :=
  ((bigSep_mono fun c _ => core_alloc o c).trans (bigSep_fupd _ _)).trans (BI.fupd_mono (regroup o))

theorem start1_intro (b : Bool) (c : Dev nD) : iprop(fam (fun g => atPos ER g 0 ∅ 0) b c ∗ pays (F := F) b c ∗ creds (F := F) b c) ⊢ start1 (F := F) b c := by
  have h0 : (bigSep (Finset.Ico 0 2) (fun j => atPos ER (crc b j c) (j / 2) ∅ 0) : sProp 𝕄) = bigSep (Finset.Ico 0 2) (fun j => atPos ER (crc b j c) 0 ∅ 0) :=
    bigSep_congr fun j hj => by rw [show j / 2 = 0 by have := (Finset.mem_Ico.mp hj).2; omega]
  unfold fam pays creds start1
  rw [h0, bigSep_sep', bigSep_sep', bigSep_sep', bigSep_sep']
  iintro ⟨⟨A1, A2, A3, A4, A5⟩, ⟨B1, B2, B3, B4, B5, B6⟩, ⟨C1, C2, C3⟩⟩
  isplitl [B1]; · iexact B1
  isplitl [B2 B3]
  · isplitl [B2] <;> iassumption
  isplitl [A1 C1]
  · isplitl [A1] <;> iassumption
  isplitl [A2]; · iexact A2
  isplitl [B4 B5]
  · isplitl [B4] <;> iassumption
  isplitl [B6]; · iexact B6
  isplitl [A3 C2]
  · isplitl [A3] <;> iassumption
  isplitl [A4]; · iexact A4
  isplitl [A5] <;> iassumption

theorem start_of (c : Dev nD) : iprop(levAts L lv ∗ Pipeline.launchCred due0 c ∗ G' o c) ⊢ start o c := by
  unfold G' fams start recs
  iintro ⟨Hl, Hc, HK, ⟨P0, P1, P2⟩, T1, T2⟩
  ihave Hc := (creds_intro (F := F) c) $$ Hc
  icases Hc with ⟨C0, C1, C2⟩
  isplitl [Hl HK]
  · isplitl [HK]
    · unfold knowAll; iexact HK
    iexact Hl
  isplitl [P0]; · iexact P0
  isplitl [C0]; · iexact C0
  isplitl [P1 T1 C1]
  · iapply (start1_intro true c)
    isplitl [P1]; · iexact P1
    isplitl [T1] <;> iassumption
  · iapply (start1_intro false c)
    isplitl [P2]; · iexact P2
    isplitl [T2] <;> iassumption

end

/-! ## The pipeline's data -/

variable (m : (ℓ : Loc nD τ sig) → Buf (Elt F) ℓ) (ρ : Dev nD → PrngReg)

def s₀ : MemSt nD τ sig (Elt F) := ⟨m, fun _ => 0, ρ⟩

/-- Each device's operands. -/
def opsOf (c : Dev nD) : Ops F where
  x := (win0_0.blk (0 : Fin 1)).view.read (Elt F) ((s₀ m ρ).mem ((c : Thread nD τ).loc main_arg0))
  r := (win0_1.blk (0 : Fin 1)).view.read (Elt F) ((s₀ m ρ).mem ((c : Thread nD τ).loc main_arg1))
  i := (win0_2.blk (0 : Fin 1)).view.read (Elt F) ((s₀ m ρ).mem ((c : Thread nD τ).loc main_arg2))
  e := (win0_3.blk (0 : Fin 1)).view.read (Elt F) ((s₀ m ρ).mem ((c : Thread nD τ).loc main_arg3))

def Φ₀ (c : Dev nD) : sProp 𝕄 := iprop(start (opsOf m ρ) c ∗ bufs (F := F) c)
def Φ₁ (c : Dev nD) : sProp 𝕄 := iprop(done (F := F) c ∗ bufs (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (opsOf m ρ c).x
    | ⟨1, _⟩ => (opsOf m ρ c).r
    | ⟨2, _⟩ => (opsOf m ρ c).i
    | ⟨3, _⟩ => (opsOf m ρ c).e
    | ⟨4, _⟩ => resOf (opsOf m ρ) c
  Φ t := match t with
    | ⟨0, _⟩ => Φ₀ m ρ c
    | ⟨_ + 1, _⟩ => Φ₁ c
  q _ := fullShare
  owed t := match t with
    | ⟨0, _⟩ => due0 c
    | ⟨_ + 1, _⟩ => 0

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (c : Dev nD) : sProp 𝕄 :=
  iprop(Φ₀ m ρ c ∗ (dats m ρ 0 c).owesAt (0 : ℕ) t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt (0 : ℕ) t₀.succ ∗ stg c cc0_stg0_0 (opsOf m ρ c).x ∗ stg c cc0_stg1_0 (opsOf m ρ c).r
    ∗ stg c cc0_stg2_0 (opsOf m ρ c).i ∗ stg c cc0_stg3_0 (opsOf m ρ c).e ∗ stg c cc0_stg4_0 (resOf (opsOf m ρ) c))

theorem stg_intro (c : Dev nD) (b : Ref sig .tc) (X : b.ty.Contents (Elt F)) : (((c : Thread nD τ).loc b) ↦{fullShare} (X : Buf (Elt F) ((c : Thread nD τ).loc b)) : sProp 𝕄) ⊢ stg c b X := by
  unfold stg
  iintro H
  iexists X
  isplitr; · ipureintro; rfl
  iexact H

set_option maxRecDepth 8000 in
theorem body_ok (c : Dev nD) : bodyPre m ρ c ⊢ WP c (text (Memref.whole cc0_stg0_0) (Memref.whole cc0_stg1_0) (Memref.whole cc0_stg2_0) (Memref.whole cc0_stg3_0) (Memref.whole cc0_stg4_0)) (fun _ => bodyPost m ρ c) := by
  unfold bodyPre Φ₀ stg
  iintro ⟨⟨Hs, Hb⟩, HO, ⟨%d0, %f0, %h0, H0⟩, ⟨%d1, %f1, %h1, H1⟩, ⟨%d2, %f2, %h2, H2⟩, ⟨%d3, %f3, %h3, H3⟩, ⟨%d4, %f4, %h4, H4⟩⟩
  have e0 : f0 = (opsOf m ρ c).x := by rw [h0]; unfold Dat.before; rw [if_pos (fetch0_0 t₀)]; rfl
  have e1 : f1 = (opsOf m ρ c).r := by rw [h1]; unfold Dat.before; rw [if_pos (fetch0_1 t₀)]; rfl
  have e2 : f2 = (opsOf m ρ c).i := by rw [h2]; unfold Dat.before; rw [if_pos (fetch0_2 t₀)]; rfl
  have e3 : f3 = (opsOf m ρ c).e := by rw [h3]; unfold Dat.before; rw [if_pos (fetch0_3 t₀)]; rfl
  clear h0 h1 h2 h3
  subst e0 e1 e2 e3
  unfold Dat.owesAt Pipeline.owesWithin
  icases HO with ⟨%W, -, HO⟩
  iapply (body_wp (opsOf m ρ) c f4) $$ [Hs Hb HO H0 H1 H2 H3 H4]
  · isplitl [Hs]; · iexact Hs
    isplitl [Hb]; · iexact Hb
    isplitl [HO]; · unfold owesW; iexists W; iexact HO
    isplitr [H4]
    · unfold ins
      isplitl [H0]; · iexact H0
      isplitl [H1]; · iexact H1
      isplitl [H2] <;> iassumption
    · unfold res; iexact H4
  unfold owesW ins res bodyPost Φ₁ Dat.owesAt Pipeline.owesWithin
  iintro ⟨Hd, Hb, ⟨%W', HO⟩, ⟨H0, H1, H2, H3⟩, H4⟩
  rw [show (dats m ρ 0 c).owed t₀.succ = 0 from rfl]
  isplitl [Hd Hb]
  · isplitl [Hd] <;> iassumption
  isplitl [HO]
  · iexists W'
    isplitr; · ipureintro; exact fun _ _ => Or.inl trivial
    iexact HO
  isplitl [H0]; · iapply stg_intro; iexact H0
  isplitl [H1]; · iapply stg_intro; iexact H1
  isplitl [H2]; · iapply stg_intro; iexact H2
  isplitl [H3]; · iapply stg_intro; iexact H3
  iapply stg_intro; iexact H4

set_option maxRecDepth 1000000 in
theorem body_obligation (c : Dev nD) : BodyObligation (dats (F := F) m ρ 0 c) (defs₀ (F := F)) 𝒱₀ (0 : ℕ) Set.univ := fun t => by
  rw [fin_N0 t]
  rw [bigSep_W0, bigSep_W0]
  have h := body_ok m ρ c
  have e := body_text (F := F) t₀
  simp only [owns_whole_eq]
  show bodyPre m ρ c ⊢ wp frame (wpE (defs₀ (F := F)) 𝒱₀ c none) Set.univ (bodyAt0 (F := F) t₀) (fun _ => bodyPost m ρ c)
  rw [e]
  exact h

/-! ## The side conditions -/

theorem start_intro (c : Dev nD) :
    iprop(Pipeline.unscopedRestP Pipeline.Prefetch.none cfg0.spec c (fun b => m ((c : Thread nD τ).loc b)) ∗ levAts L lv
        ∗ Pipeline.launchCred due0 c ∗ prngReg c (ρ c) ∗ G' (opsOf m ρ) c)
      ⊢ |={Set.univ}=> iprop(start (opsOf m ρ) c ∗ emp) := by
  iintro ⟨-, Hlev, Hcr, -, HG⟩
  imodintro
  isplitl
  · iapply (start_of (opsOf m ρ) c)
    isplitl [Hlev]; · iexact Hlev
    isplitl [Hcr] <;> iassumption
  · iempintro

def scr (b : Ref sig .tc) (c : Dev nD) : sProp 𝕄 :=
  iprop(∃ f : Buf (Elt F) ((c : Thread nD τ).loc b), ((c : Thread nD τ).loc b) ↦{fullShare} f)
theorem bufs_eq (c : Dev nD) : bufs (F := F) c
    = iprop((scr cc0_scratch0 c ∗ scr cc0_scratch3 c ∗ scr cc0_scratch4 c) ∗ (scr cc0_scratch1 c ∗ scr cc0_scratch5 c ∗ scr cc0_scratch6 c) ∗ scr cc0_scratch2 c) := rfl

theorem phi0_intro (c : Dev nD) :
    iprop(start (opsOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [bufs_eq]
  unfold scr
  iintro ⟨Hs, -, ⟨R0, R1, R2, R3, R4, R5, R6⟩⟩
  isplitl [Hs]; · iexact Hs
  isplitl [R0 R3 R4]
  · isplitl [R0]; · iexact R0
    isplitl [R3] <;> iassumption
  isplitl [R1 R5 R6]
  · isplitl [R1]; · iexact R1
    isplitl [R5] <;> iassumption
  iexact R2

theorem phi1_exit (c : Dev nD) :
    (dats m ρ 0 c).Φ (Fin.last cfg0.N) ⊢ iprop(unscopedSems0 c ∗ Pipeline.ownSems0 osem c ∗ Pipeline.scopedRest cfg0.spec c) := by
  have hd : done (F := F) c = fams (fun g => semVal g 0) c := rfl
  rw [show (dats m ρ 0 c).Φ (Fin.last cfg0.N) = Φ₁ c from rfl, scopedRest0_eq, own_eq, unscoped_eq]
  unfold Φ₁
  rw [hd, bufs_eq]
  unfold scr
  iintro ⟨Hd, ⟨R0, R3, R4⟩, ⟨R1, R5, R6⟩, R2⟩
  ihave Hd := (fams_parts (fun g => semVal g 0) c) $$ Hd
  icases Hd with ⟨HA, HB⟩
  isplitl [HB]; · iexact HB
  isplitl [HA]; · iexact HA
  isplitl [R0]; · iexact R0
  isplitl [R1]; · iexact R1
  isplitl [R2]; · iexact R2
  isplitl [R3]; · iexact R3
  isplitl [R4]; · iexact R4
  isplitl [R5] <;> iassumption

theorem due0_pos {c : Dev nD} {x : GSem nD τ sig} {i : ℕ} (h : 0 < due0 c x i) : i ∈ L x ∧ 0 < lv x i := by
  unfold due0 at h
  simp only [Pi.add_apply, Finsupp.add_apply] at h
  have key : ∀ {A B C : ℕ}, 0 < A + B + C → 0 < A ∨ 0 < B ∨ 0 < C := by omega
  rcases key h with h | h | h
  · obtain ⟨h1, h2, j, h3⟩ := due_pos h
    refine ⟨by unfold L; rw [if_pos h1]; exact Finset.mem_range.mpr h2, ?_⟩
    rcases h3 with h | h | h | h | h | h <;> rw [h.2.2] <;> omega
  all_goals
    obtain ⟨rfl, rfl⟩ := tally_pos h
    exact ⟨by rw [L_tc]; decide, by rw [lv_bar]; decide⟩

theorem wait_stage (c : Dev nD) (q : DmaSem sig) (hq : q.val < 5) (O : CellTallies nD τ sig ℕ) (hO : O = due0 c ∨ O = 0) :
    (levAts L lv : sProp 𝕄) ⊢ MayWait (c : Thread nD τ) (.dma q) 0 O := by
  have h0 : lv (cell c (.dma q)) 0 = 0 := if_pos hq
  refine Pipeline.mayWait_of_levAts (by rw [show L ((c : Thread nD τ), SemLoc.dma q) = _ from L_tc c _]; decide) fun x i h => ?_
  rw [show lv ((c : Thread nD τ), SemLoc.dma q) 0 = 0 from h0]
  rcases hO with rfl | rfl
  · exact due0_pos h
  · exact absurd h (Nat.lt_irrefl 0)

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    wait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, every semaphore at zero, with each device's arrays as computed. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := due0) (howed₀ := fun _ => rfl) (howedN := fun _ => rfl)
    (L := L) (lv := lv) (hL := L_of_ne) (hwaits := waits m ρ)
    (G := G (opsOf m ρ)) (G' := G' (opsOf m ρ)) (u₀ := u₀)
    (hu₀ := by
      unfold u₀
      iintro Hu
      ihave H := (ownU_pair _ _) $$ Hu
      icases H with ⟨HP, HX⟩
      imod (fund_all (opsOf m ρ)) $$ HX with HG
      imodintro
      isplitl [HP] <;> iassumption)
    (hglob := glob (opsOf m ρ))
    (hA := fun _ _ => rfl) (hpf := fun _ k => k.elim0)
    (X := start (opsOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe
-- ==== Proof.Frames.lean ====
/- The frames: every run ends with the arguments unchanged and every semaphore at zero. -/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Moe

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- An operand array ends as it began. -/
theorem arg_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats m ρ 0 c).arrAt_in (0 : Fin 5) rfl _), (h c (1 : Fin 5)).trans ((dats m ρ 0 c).arrAt_in (1 : Fin 5) rfl _),
    (h c (2 : Fin 5)).trans ((dats m ρ 0 c).arrAt_in (2 : Fin 5) rfl _), (h c (3 : Fin 5)).trans ((dats m ρ 0 c).arrAt_in (3 : Fin 5) rfl _)⟩

attribute [local instance] Cert.Kernel.Gen.facts Cert.KernelIdeal.Gen.facts Cert.ReferenceIdeal.Gen.facts

def Kept (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0

theorem frame_any : θ_run defs (onTc (τ := τ) (main (F := F))) (s₀ m ρ) (Kept m) :=
  (θ_run defs _ _).mono (fun _ h => ⟨arg_kept m ρ h.1, h.2⟩) (run_main m ρ)

theorem frame_ideal : Cert.quiescent_KernelIdeal := fun m ρ _ => frame_any (F := Ideal) m ρ

set_option maxRecDepth 1000000 in
theorem defs₀_eq : Cert.Kernel.defs₀ (F := Bits) = Cert.KernelIdeal.defs₀ (F := Bits) := by
  refine congrArg Defs.onTc ?_
  funext l a
  obtain ⟨_ | n, h⟩ := l
  · rfl
  · exact absurd h (Nat.not_lt.2 (Nat.le_add_left _ _))

theorem defs_eq : Cert.KernelIdeal.defs (F := Bits) = Cert.Kernel.defs (F := Bits) :=
  congrArg (Pipeline.defs (Cert.KernelIdeal.pcfgs (F := Bits))) defs₀_eq.symm

theorem frame_kernel : Cert.quiescent_Kernel := fun m ρ _ =>
  (defs_eq ▸ frame_any (F := Bits) m ρ : θ_run (Cert.Kernel.defs (F := Bits)) (onTc (τ := τ) (main (F := Bits))) (s₀ m ρ) (Kept m))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe
-- ==== Proof.Alg.lean ====
/- One token's mathematics on the extended reals: its routing probabilities, the two gate weights, and why the
   weighted sum over all experts is the weighted sum of the two chosen ones. -/
module

public import Idealize.ShloMosaic.PureOps.Ideal.Laws

@[expose] public section

noncomputable section

namespace Cert.Moe

open Idealize.ShloMosaic
open scoped BigOperators

/-- A token's scores: its row of inputs against each expert's router column. -/
def score (x : Fin 512 → EReal) (r : Fin 512 → Fin 64 → EReal) (e : Fin 64) : EReal := ∑ k, x k * r k e
/-- The largest score. -/
def top (s : Fin 64 → EReal) : EReal := Finset.univ.fold max ⊥ s
/-- The softmax of the scores. -/
def prob (s : Fin 64 → EReal) (e : Fin 64) : EReal :=
  Ideal.div (Ideal.exp (s e - top s)) (∑ e', Ideal.exp (s e' - top s))
/-- The share of `p` in `p + q`'s. -/
def share (s : Fin 64 → EReal) (p i j : Fin 64) : EReal := Ideal.div (prob s p) (prob s i + prob s j)

/-- A token's result: the two chosen experts' rows, by their shares. -/
def mixed (s : Fin 64 → EReal) (i j : Fin 64) (y : Fin 64 → EReal) : EReal :=
  share s i i j * y i + share s j i j * y j

/-- The chosen experts' weights, spread over all experts. -/
def spread (s : Fin 64 → EReal) (i j e : Fin 64) : EReal :=
  (if e = i then 1 else 0) * share s i i j + (if e = j then 1 else 0) * share s j i j

theorem div_coe (p q : ℝ) (hq : 0 < q) : Ideal.div (p : EReal) (q : EReal) = ((p / q : ℝ) : EReal) := by
  unfold Ideal.div
  rw [if_neg (by exact_mod_cast hq.ne'), div_eq_mul_inv, EReal.coe_mul, EReal.coe_inv]

theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem score_real {x : Fin 512 → EReal} {r : Fin 512 → Fin 64 → EReal} (hx : ∀ k, ∃ v : ℝ, x k = v)
    (hr : ∀ k e, ∃ v : ℝ, r k e = v) (e : Fin 64) : ∃ v : ℝ, score x r e = v := by
  choose X hX using hx
  choose R hR using hr
  refine ⟨∑ k, X k * R k e, ?_⟩
  unfold score
  rw [← coe_sum]
  exact Finset.sum_congr rfl fun k _ => by rw [hX, hR, EReal.coe_mul]

theorem top_real {s : Fin 64 → EReal} (hs : ∀ e, ∃ v : ℝ, s e = v) : ∃ v : ℝ, top s = v := by
  have h : top s = Finset.univ.sup s := rfl
  obtain ⟨e, _, he⟩ := Finset.exists_mem_eq_sup (Finset.univ : Finset (Fin 64)) ⟨0, Finset.mem_univ _⟩ s
  rw [h, he]
  exact hs e

theorem exp_coe (v : ℝ) : Ideal.exp (v : EReal) = ((Real.exp v : ℝ) : EReal) := rfl

theorem prob_pos {s : Fin 64 → EReal} (hs : ∀ e, ∃ v : ℝ, s e = v) (e : Fin 64) : ∃ v : ℝ, 0 < v ∧ prob s e = v := by
  obtain ⟨t, ht⟩ := top_real hs
  choose S hS using hs
  have hex : ∀ e, Ideal.exp (s e - top s) = ((Real.exp (S e - t) : ℝ) : EReal) := fun e => by
    rw [hS, ht, ← EReal.coe_sub, exp_coe]
  have hsum : (0 : ℝ) < ∑ e', Real.exp (S e' - t) := Finset.sum_pos (fun _ _ => Real.exp_pos _) ⟨0, Finset.mem_univ _⟩
  refine ⟨Real.exp (S e - t) / ∑ e', Real.exp (S e' - t), div_pos (Real.exp_pos _) hsum, ?_⟩
  unfold prob
  rw [hex, Finset.sum_congr rfl (fun e' _ => hex e'), coe_sum, div_coe _ _ hsum]

theorem share_nonneg {s : Fin 64 → EReal} (hs : ∀ e, ∃ v : ℝ, s e = v) (p i j : Fin 64) : 0 ≤ share s p i j ∧ share s p i j ≠ ⊤ := by
  obtain ⟨a, ha, ea⟩ := prob_pos hs p
  obtain ⟨b, hb, eb⟩ := prob_pos hs i
  obtain ⟨c, hc, ec⟩ := prob_pos hs j
  have : share s p i j = ((a / (b + c) : ℝ) : EReal) := by
    unfold share
    rw [ea, eb, ec, ← EReal.coe_add, div_coe _ _ (by linarith)]
  rw [this]
  exact ⟨by exact_mod_cast (div_pos ha (by linarith)).le, EReal.coe_ne_top _⟩

/-- A finite weight that is not negative distributes over a sum. -/
theorem weight_sum {ι : Type} (t : Finset ι) {w : EReal} (h0 : 0 ≤ w) (h1 : w ≠ ⊤) (f : ι → EReal) :
    ∑ i ∈ t, w * f i = w * ∑ i ∈ t, f i := by
  classical
  induction t using Finset.induction_on with
  | empty => simp
  | insert a t ha ih => rw [Finset.sum_insert ha, Finset.sum_insert ha, ih, EReal.left_distrib_of_nonneg_of_ne_top h0 h1]

theorem spread_nonneg {s : Fin 64 → EReal} (hs : ∀ e, ∃ v : ℝ, s e = v) (i j e : Fin 64) :
    0 ≤ spread s i j e ∧ spread s i j e ≠ ⊤ := by
  obtain ⟨h0, h1⟩ := share_nonneg hs i i j
  obtain ⟨h2, h3⟩ := share_nonneg hs j i j
  unfold spread
  split <;> split <;> simp only [one_mul, zero_mul, add_zero, zero_add]
  · exact ⟨add_nonneg h0 h2, EReal.add_ne_top h1 h3⟩
  · exact ⟨h0, h1⟩
  · exact ⟨h2, h3⟩
  · exact ⟨le_rfl, EReal.zero_ne_top⟩

theorem spread_mul {s : Fin 64 → EReal} (hs : ∀ e, ∃ v : ℝ, s e = v) (i j e : Fin 64) (y : EReal) :
    spread s i j e * y = (if e = i then share s i i j * y else 0) + (if e = j then share s j i j * y else 0) := by
  obtain ⟨h0, h1⟩ := share_nonneg hs i i j
  obtain ⟨h2, h3⟩ := share_nonneg hs j i j
  unfold spread
  split <;> split <;> simp only [one_mul, zero_mul, add_zero, zero_add]
  exact EReal.right_distrib_of_nonneg h0 h2

/-- The sum over all experts of the token's row, scaled by the expert's weight, times the expert's column, is the
    two chosen experts' mix. -/
theorem all_experts {x : Fin 512 → EReal} {s : Fin 64 → EReal} (hs : ∀ e, ∃ v : ℝ, s e = v)
    (i j : Fin 64) (w : Fin 64 → Fin 512 → EReal) :
    ∑ e, ∑ k, (x k * spread s i j e) * w e k = mixed s i j fun e => ∑ k, x k * w e k := by
  have h : ∀ e, ∑ k, (x k * spread s i j e) * w e k
      = (if e = i then share s i i j * ∑ k, x k * w e k else 0) + (if e = j then share s j i j * ∑ k, x k * w e k else 0) := fun e => by
    obtain ⟨h0, h1⟩ := spread_nonneg hs i j e
    rw [← spread_mul hs, ← weight_sum _ h0 h1]
    exact Finset.sum_congr rfl fun k _ => by rw [mul_comm (x k), mul_assoc]
  rw [Finset.sum_congr rfl fun e _ => h e, Finset.sum_add_distrib, Finset.sum_ite_eq', Finset.sum_ite_eq']
  simp only [Finset.mem_univ, if_true]
  rfl

/-- Picking one entry out of a row by a sum of products. -/
theorem sum_pick {n : ℕ} (f : Fin n → EReal) (i : Fin n) : ∑ e, f e * (if e = i then 1 else 0) = f i := by
  rw [Finset.sum_eq_single i (fun e _ he => by rw [if_neg he, mul_zero]) (fun h => absurd (Finset.mem_univ i) h), if_pos rfl, mul_one]

end Cert.Moe
-- ==== Proof.KernelValue.lean ====
/- What the kernel computes, read at one element on the extended reals. -/
module

public import proofs.«01_k».proof.Proof.Alg
public import proofs.«01_k».proof.Proof.Whole
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.Moe

open Cert.KernelIdeal Cert.KernelIdeal.Gen
open Idealize.ShloMosaic Idealize.ShloMosaic.ValueIdx
open scoped BigOperators

/-! ## Rows of a matrix -/

section Rows
variable {m n : ℕ} {α : Type}

theorem lift_row (h : (⟨2, ![m, n]⟩ : Shape).Reduces [1] ⟨1, ![m]⟩) (t : Fin m) (e : Fin n) : h.lift (ix1 t) e = ix2 t e := by
  funext a
  match a with
  | ⟨0, _⟩ => rfl
  | ⟨1, _⟩ => rfl

theorem cast_col (v : (⟨1, ![m]⟩ : Shape).Idx → α) (h : (⟨1, ![m]⟩ : Shape).ShapeCasts ⟨2, ![m, 1]⟩) (t : Fin m) (z : Fin 1) :
    shapeCast ⟨2, ![m, 1]⟩ v h (ix2 t z) = v (ix1 t) :=
  shapeCast_apply v h _ _ (by
    have hz : z.val = 0 := by omega
    rw [Shape.rowMajor_val_two, Shape.rowMajor_val_one]
    show t.val = t.val * 1 + z.val
    omega)

theorem spread_col (hn : m ≠ 1) (v : (⟨2, ![m, 1]⟩ : Shape).Idx → α) (h : (⟨2, ![m, 1]⟩ : Shape).Broadcasts ⟨2, ![m, n]⟩) (t : Fin m) (e : Fin n) :
    broadcastTo ⟨2, ![m, n]⟩ v h (ix2 t e) = v (ix2 t 0) :=
  broadcastTo_apply v h _ _ fun a => match a with
    | ⟨0, _⟩ => (if_neg (show ¬ (![m, 1] : Fin 2 → ℕ) 0 = 1 from hn)).symm
    | ⟨1, _⟩ => (if_pos (show (![m, 1] : Fin 2 → ℕ) 1 = 1 from rfl)).symm

theorem row_sum (x : FVec Ideal ⟨2, ![m, n]⟩ .f32) (h : (⟨2, ![m, n]⟩ : Shape).Reduces [1] ⟨1, ![m]⟩)
    (hφ : FKind.Formats .f32) (hacc : (0x00000000#32 : BitVec 32) = 0x00000000#32) (t : Fin m) :
    multiReduction .add [1] ⟨1, ![m]⟩ x 0x00000000#32 h hφ hacc (ix1 t) = ∑ e : Fin n, x (ix2 t e) := by
  refine (Ideal.multiReduction_add_single (φ := .f32) x 0x00000000#32 h hφ hacc (ix1 t)).trans ?_
  exact Finset.sum_congr rfl fun e _ => congrArg x (lift_row h t e)

end Rows

/-! ## Words -/

theorem ofNat_eq_iff {a b : ℕ} (ha : a < 64) (hb : b < 64) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The test whether two expert numbers agree, as a number. -/
theorem onehot (e i : Fin 64) : (FloatOps.sitofp .f32 ((IntOp.cmpi .eq (BitVec.ofNat 32 e.val) (BitVec.ofNat 32 i.val)).setWidth 32) : Ideal .f32)
    = (if e = i then 1 else 0 : EReal) := by
  have hc : IntOp.cmpi .eq (BitVec.ofNat 32 e.val) (BitVec.ofNat 32 i.val) = if e = i then 1#1 else 0#1 := by
    have h := ofNat_eq_iff e.isLt i.isLt
    by_cases he : e = i
    · subst he; simp [IntOp.cmpi]
    · rw [if_neg he]
      have : ¬ BitVec.ofNat 32 e.val = BitVec.ofNat 32 i.val := fun hh => he (Fin.ext (h.1 hh))
      show BitVec.ofBool (BitVec.ofNat 32 e.val == BitVec.ofNat 32 i.val) = 0#1
      rw [beq_eq_false_iff_ne.2 this]; rfl
  rw [hc]
  show (((BitVec.setWidth 32 (if e = i then 1#1 else 0#1)).toInt : ℝ) : EReal) = _
  by_cases he : e = i
  · rw [if_pos he, if_pos he]; norm_num
  · rw [if_neg he, if_neg he]; norm_num

theorem meW_val : ∀ c : Dev nD, meW c = BitVec.ofNat 32 c.val := by decide

/-! ## Routing -/

section Routing
variable (x : Vec Ideal S1024x512 .bf16) (r : Vec Ideal S512x64 .bf16) (i0 i1 : Vec Ideal S1024x1 .i32) (t : Fin 1024)

/-- A token's scores. -/
abbrev tokScore : Fin 64 → EReal := score (fun k => x (ix2 t k)) (fun k e => r (ix2 k e))

theorem pay1_eq : k0_pay1 (F := Ideal) x = x := by unfold k0_pay1; exact shapeCast_self _ _

/-- The scores as the kernel computes them. -/
def scoreM : FVec Ideal S1024x64 .f32 :=
  matmul dot_S1024x512_S512x64_S1024x64_1_0_0_1_n_n none (k0_pay1 x)
    (shapeCast S512x64 r shapeCasts_S512x64_S512x64 : FVec Ideal S512x64 .bf16) (constant S1024x64 .f32 0x00000000#32)

theorem scoreM_apply (e : Fin 64) : scoreM x r (ix2 t e) = tokScore x r t e := by
  unfold scoreM
  rw [pay1_eq, shapeCast_self]
  refine (Ideal.matmul_plain_apply (φ₁ := .bf16) (φ₂ := .bf16) none x r (constant S1024x64 .f32 0x00000000#32) t e).trans ?_
  rw [constant_apply, Ideal.ofBits_zero_f32, zero_add]
  rfl

theorem scoreM_top : multiReduction .maximumf [1] S1024 (scoreM x r) 0xFF800000#32 reduces_S1024x64_S1024 (.inl rfl) rfl (ix1 t)
    = top (tokScore x r t) := by
  refine (Ideal.multiReduction_maximumf_single (φ := .f32) (scoreM x r) 0xFF800000#32 reduces_S1024x64_S1024 (.inl rfl) rfl (ix1 t)).trans ?_
  have hb : (FloatOps.ofBits .f32 0xFF800000#32 : Ideal .f32) = (⊥ : EReal) := by
    show Ideal.ofBits .f32 0xFF800000#32 = ⊥
    simp [Ideal.ofBits, Ideal.ieee]
  rw [hb]
  have hf : scoreM x r ∘ reduces_S1024x64_S1024.lift (ix1 t) = tokScore x r t := by
    funext e
    refine Eq.trans ?_ (scoreM_apply x r t e)
    exact congrArg (scoreM x r) (lift_row _ t e)
  rw [hf]
  rfl

/-- Their exponentials, less the row's largest. -/
def expM : FVec Ideal S1024x64 .f32 :=
  exp (subf (scoreM x r) (broadcastTo S1024x64 (shapeCast S1024x1
    (multiReduction .maximumf [1] S1024 (scoreM x r) 0xFF800000#32 reduces_S1024x64_S1024 (.inl rfl) rfl)
    shapeCasts_S1024_S1024x1) broadcasts_S1024x1_S1024x64))

theorem expM_apply (e : Fin 64) : expM x r (ix2 t e) = Ideal.exp (tokScore x r t e - top (tokScore x r t)) := by
  unfold expM
  refine congrArg Ideal.exp ?_
  rw [subf_apply, scoreM_apply, spread_col (m := 1024) (by decide), cast_col, scoreM_top]

theorem pay2_apply (e : Fin 64) : k0_pay2 (F := Ideal) x r (ix2 t e) = prob (tokScore x r t) e := by
  show divf (expM x r) (broadcastTo S1024x64 (shapeCast S1024x1 (multiReduction .add [1] S1024 (expM x r) 0x00000000#32
    reduces_S1024x64_S1024 (.inl rfl) rfl) shapeCasts_S1024_S1024x1) broadcasts_S1024x1_S1024x64) (ix2 t e) = _
  rw [divf_apply, spread_col (m := 1024) (by decide), cast_col, row_sum, expM_apply]
  unfold prob
  exact congrArg _ (Finset.sum_congr rfl fun e _ => expM_apply x r t e)

variable (i j : Fin 64) (h0 : i0 (ix2 t 0) = BitVec.ofNat 32 i.val) (h1 : i1 (ix2 t 0) = BitVec.ofNat 32 j.val)

/-- The one-hot rows of an expert column, as the kernel computes them. -/
def hotM (i0 : Vec Ideal S1024x1 .i32) : FVec Ideal S1024x64 .f32 :=
  sitofp .f32 (extui 32 (cmpi .eq (iota .tc S1024x64 32 [1] iota_S1024x64_d1_w32)
    (broadcastTo S1024x64 (shapeCast S1024x1 i0 shapeCasts_S1024x1_S1024x1 : IVec S1024x1 32) broadcasts_S1024x1_S1024x64)) natLt_1_32)

include h0 in
theorem hotM_apply (e : Fin 64) : hotM i0 (ix2 t e) = if e = i then 1 else 0 := by
  unfold hotM
  rw [shapeCast_self]
  show FloatOps.sitofp .f32 ((IntOp.cmpi .eq (iota .tc S1024x64 32 [1] iota_S1024x64_d1_w32 (ix2 t e))
    (broadcastTo S1024x64 i0 broadcasts_S1024x1_S1024x64 (ix2 t e))).setWidth 32) = _
  rw [iota_single_apply, spread_col (m := 1024) (by decide), h0]
  exact onehot e i

/-- A row's probability at the hot expert. -/
def gateM (i0 : Vec Ideal S1024x1 .i32) : FVec Ideal S1024x1 .f32 :=
  shapeCast S1024x1 (multiReduction .add [1] S1024 (mulf (k0_pay2 x r) (hotM i0)) 0x00000000#32
    reduces_S1024x64_S1024 (.inl rfl) rfl) shapeCasts_S1024_S1024x1

include h0 in
theorem gateM_apply : gateM x r i0 (ix2 t 0) = prob (tokScore x r t) i := by
  unfold gateM
  rw [cast_col, row_sum, ← sum_pick (prob (tokScore x r t)) i]
  exact Finset.sum_congr rfl fun e _ => by rw [mulf_apply, pay2_apply, hotM_apply _ _ _ h0]

/-- The weights, spread over the experts, as the kernel computes them. -/
def spreadM : FVec Ideal S1024x64 .f32 :=
  addf (mulf (hotM i0) (broadcastTo S1024x64 (divf (gateM x r i0) (addf (gateM x r i0) (gateM x r i1))) broadcasts_S1024x1_S1024x64))
    (mulf (hotM i1) (broadcastTo S1024x64 (divf (gateM x r i1) (addf (gateM x r i0) (gateM x r i1))) broadcasts_S1024x1_S1024x64))

include h0 h1 in
theorem spreadM_apply (e : Fin 64) : spreadM x r i0 i1 (ix2 t e) = spread (tokScore x r t) i j e := by
  unfold spreadM
  rw [addf_apply, mulf_apply, mulf_apply, spread_col (m := 1024) (by decide), spread_col (m := 1024) (by decide), divf_apply, divf_apply,
    addf_apply, hotM_apply _ _ _ h0, hotM_apply _ _ _ h1, gateM_apply _ _ _ _ _ h0, gateM_apply _ _ _ _ _ h1]
  rfl

/-- The rows a device packs: inputs, then weights. -/
abbrev packM : FVec Ideal S1024x576 .bf16 :=
  k0_pay4 (k0_pay1 x) (k0_pay2 x r) (iota .tc S1024x64 32 [1] iota_S1024x64_d1_w32) (k0_pay3 (F := Ideal) i0) i1

theorem packM_eq : packM x r i0 i1 = concatenate S1024x576 1 [⟨S1024x512, x⟩, ⟨S1024x64, spreadM x r i0 i1⟩] concatenates_S1024x512_S1024x64_S1024x576_d1 := by
  have : packM x r i0 i1 = concatenate S1024x576 1 [⟨S1024x512, k0_pay1 (F := Ideal) x⟩, ⟨S1024x64, spreadM x r i0 i1⟩] concatenates_S1024x512_S1024x64_S1024x576_d1 := rfl
  rw [this, pay1_eq]

theorem packM_input (k : Fin 512) (n : Fin 576) (hn : n.val = k.val) : packM x r i0 i1 (ix2 t n) = x (ix2 t k) := by
  rw [packM_eq]
  exact concatenate_pair_apply_left (s₁ := S1024x512) (s₂ := S1024x64) (1 : Fin S1024x576.rank) x (spreadM x r i0 i1) _ _ rfl (ix2 t k) fun b => match b with
    | ⟨0, _⟩ => rfl
    | ⟨1, _⟩ => hn.symm

include h0 h1 in
theorem packM_weight (e : Fin 64) (n : Fin 576) (hn : n.val = 512 + e.val) : packM x r i0 i1 (ix2 t n) = spread (tokScore x r t) i j e := by
  rw [packM_eq, ← spreadM_apply _ _ _ _ _ _ _ h0 h1]
  exact concatenate_pair_apply_right (s₁ := S1024x512) (s₂ := S1024x64) (1 : Fin S1024x576.rank) x (spreadM x r i0 i1) _ _ rfl rfl (ix2 t e)
    (fun b hb => match b, hb with
      | ⟨0, _⟩, _ => rfl
      | ⟨1, _⟩, hb => absurd rfl hb) (by
      show e.val + 512 = n.val
      omega)

end Routing

/-! ## The packed halves -/

/-- The token a row of a half is. -/
def rowOf (b : Bool) (t : Fin 512) : Fin 1024 := ⟨(if b then 0 else 512) + t.val, by have := t.isLt; split <;> omega⟩

theorem pack5_apply (x : Vec Ideal S1024x512 .bf16) (r : Vec Ideal S512x64 .bf16) (i0 i1 : Vec Ideal S1024x1 .i32) (b : Bool) (z : Fin 1) (t : Fin 512) (n : Fin 576) :
    pack5 x r i0 i1 b (ix3 z t n) = packM x r i0 i1 (ix2 (rowOf b t) n) := by
  cases b
  · show k0_pay6 _ _ _ _ _ (ix3 z t n) = _
    unfold k0_pay6
    rw [shapeCast_ab_1ab_apply]
    exact slice2_axis0_apply 512 _ _ t n _ rfl
  · show k0_pay5 _ _ _ _ _ (ix3 z t n) = _
    unfold k0_pay5
    rw [shapeCast_ab_1ab_apply]
    exact slice2_axis0_apply 0 _ _ t n _ rfl

/-! ## A device's contribution -/

section Contribution
variable (c : Dev nD) (v : Vec Ideal S1x512x576 .bf16) (w : Vec Ideal S2048x1024 .bf16) (t : Fin 512)

/-- The expert a device holds at place `le`. -/
def expertOf (c : Dev nD) (le : Fin 4) : Fin 64 := ⟨c.val * 4 + le.val, by have : c.val < 16 := c.isLt; omega⟩

/-- The column of an expert's weight in a packed row. -/
def wcol (e : Fin 64) : Fin 576 := ⟨512 + e.val, by omega⟩
/-- The column of an input in a packed row. -/
def xcol (k : Fin 512) : Fin 576 := ⟨k.val, by omega⟩

theorem local_word : ∀ (c : Dev nD) (le : Fin 4), Scalar.addi (Scalar.muli (meW c) 4#32) (BitVec.ofNat 32 le.val) = BitVec.ofNat 32 (expertOf c le).val := by decide

theorem part_apply (le : Fin 4) (k : Fin 512) :
    part (F := Ideal) (meW c) (BitVec.ofNat 32 le.val) (shapeCast S512x576 v shapeCasts_S1x512x576_S512x576) (ix2 t k)
      = v (ix3 0 t (xcol k)) * v (ix3 0 t (wcol (expertOf c le))) := by
  show mulf _ _ (ix2 t k) = _
  rw [mulf_apply, spread_col (m := 512) (by decide), truncf_apply, cast_col, row_sum]
  congr 1
  · refine (slice2_axis1_apply 0 _ _ t k (xcol k) (Nat.zero_add _).symm).trans ?_
    exact shapeCast_1ab_ab_apply v _ t (xcol k)
  · refine Eq.trans (Finset.sum_congr rfl fun e _ => ?_) (sum_pick (fun e => v (ix3 0 t (wcol e))) (expertOf c le))
    rw [mulf_apply, extf_apply]
    congr 1
    · refine (slice2_axis1_apply 512 _ _ t e (wcol e) rfl).trans ?_
      exact shapeCast_1ab_ab_apply v _ t (wcol e)
    · rw [← onehot]
      show FloatOps.sitofp .f32 ((IntOp.cmpi .eq (iota .tc S512x64 32 [1] iota_S512x64_d1_w32 (ix2 t e)) _).setWidth 32) = _
      rw [iota_single_apply, broadcast_apply, local_word]

/-- The four local experts' scaled inputs, side by side. -/
abbrev partsM : FVec Ideal S512x2048 .bf16 :=
  let P : FVec Ideal S512x576 .bf16 := shapeCast S512x576 v shapeCasts_S1x512x576_S512x576
  concatenate S512x2048 1 [⟨S512x512, part (meW c) 0#32 P⟩, ⟨S512x512, part (meW c) 1#32 P⟩, ⟨S512x512, part (meW c) 2#32 P⟩, ⟨S512x512, part (meW c) 3#32 P⟩]
      concatenates_S512x512_S512x512_S512x512_S512x512_S512x2048_d1

/-- Row `k` of local expert `le`'s weights, among all four's. -/
def wrow (q : Fin 4 × Fin 512) : Fin 2048 := ⟨q.1.val * 512 + q.2.val, by have := q.1.isLt; have := q.2.isLt; omega⟩

theorem partsM_apply (le : Fin 4) (k : Fin 512) :
    partsM c v (ix2 t (wrow (le, k))) = v (ix3 0 t (xcol k)) * v (ix3 0 t (wcol (expertOf c le))) := by
  rw [← part_apply]
  have key : ∀ (n : ℕ) (hn : n < 4) (he : n = le.val),
      partsM c v (ix2 t (wrow (le, k))) = part (F := Ideal) (meW c) (BitVec.ofNat 32 n) (shapeCast S512x576 v shapeCasts_S1x512x576_S512x576) (ix2 t k) := by
    intro n hn he
    have hc : ∀ b : Fin S512x512.rank, b.cast (rfl : S512x512.rank = S512x2048.rank) ≠ (1 : Fin S512x2048.rank) →
        ((ix2 t k : S512x512.Idx) b).val = ((ix2 t (wrow (le, k)) : S512x2048.Idx) (b.cast rfl)).val := fun b hb => match b, hb with
      | ⟨0, _⟩, _ => rfl
      | ⟨1, _⟩, hb => absurd rfl hb
    have ha : ∀ p, p = le.val * 512 → p + ((ix2 t k : S512x512.Idx) 1).val = ((ix2 t (wrow (le, k)) : S512x2048.Idx) 1).val := fun p hp => by
      subst hp; rfl
    match n, hn with
    | 0, _ => exact concatenate_apply_piece (1 : Fin S512x2048.rank) _ _ _ 0 (by show 0 < 4; decide) S512x512 _ rfl rfl 0 rfl _ hc (ha _ (by omega))
    | 1, _ => exact concatenate_apply_piece (1 : Fin S512x2048.rank) _ _ _ 1 (by show 1 < 4; decide) S512x512 _ rfl rfl 512 rfl _ hc (ha _ (by omega))
    | 2, _ => exact concatenate_apply_piece (1 : Fin S512x2048.rank) _ _ _ 2 (by show 2 < 4; decide) S512x512 _ rfl rfl 1024 rfl _ hc (ha _ (by omega))
    | 3, _ => exact concatenate_apply_piece (1 : Fin S512x2048.rank) _ _ _ 3 (by show 3 < 4; decide) S512x512 _ rfl rfl 1536 rfl _ hc (ha _ (by omega))
  exact key le.val le.isLt rfl

/-- A sum over the rows of the four local experts' weights, expert by expert. -/
theorem sum_wrow (f : Fin 2048 → EReal) : ∑ n, f n = ∑ le : Fin 4, ∑ k : Fin 512, f (wrow (le, k)) := by
  rw [← Fintype.sum_prod_type (f := fun q => f (wrow q))]
  refine (Fintype.sum_bijective wrow ((Fintype.bijective_iff_injective_and_card _).2 ⟨fun p q h => ?_, by simp⟩) _ _ fun _ => rfl).symm
  have := congrArg Fin.val h
  have e1 : p.1.val * 512 + p.2.val = q.1.val * 512 + q.2.val := this
  have := p.2.isLt; have := q.2.isLt
  exact Prod.ext (Fin.ext (by omega)) (Fin.ext (by omega))

theorem contrib_apply (h : Fin 1024) :
    contrib (F := Ideal) (meW c) v w (ix2 t h) = ∑ le : Fin 4, ∑ k : Fin 512,
      (v (ix3 0 t (xcol k)) * v (ix3 0 t (wcol (expertOf c le)))) * w (ix2 (wrow (le, k)) h) := by
  show matmul dot_S512x2048_S2048x1024_S512x1024_1_0_0_1_n_n none (partsM c v) w (constant S512x1024 .f32 0x00000000#32) (ix2 t h) = _
  refine (Ideal.matmul_plain_apply (φ₁ := .bf16) (φ₂ := .bf16) none (partsM c v) w (constant S512x1024 .f32 0x00000000#32) t h).trans ?_
  rw [constant_apply, Ideal.ofBits_zero_f32, zero_add, sum_wrow]
  exact Finset.sum_congr rfl fun le _ => Finset.sum_congr rfl fun k _ => by rw [partsM_apply]

theorem pay7_apply (e : Vec Ideal S4x512x1024 .bf16) (le : Fin 4) (k : Fin 512) (h : Fin 1024) :
    k0_pay7 (F := Ideal) e (ix2 (wrow (le, k)) h) = e (ix3 le k h) := by
  unfold k0_pay7
  rw [shapeCast_self, shapeCast_self]
  exact shapeCast_apply e _ _ _ (by rw [Shape.rowMajor_val_three, Shape.rowMajor_val_two]; rfl)

end Contribution

/-! ## The ring -/

section RingSum
variable (pk : Bool → Dev nD → S1x512x576.Idx → Elt Ideal .bf16) (wt : Dev nD → S2048x1024.Idx → Elt Ideal .bf16)

theorem msg_accum (a b : FVec Ideal S512x1024 .f32) (t : Fin 512) (h : Fin 1024) : accum a (msg b) (ix2 t h) = a (ix2 t h) + b (ix2 t h) := by
  show addf a (extf .f32 (shapeCast S512x1024 (shapeCast S1x512x1024 (truncf .bf16 b bitsLt_bf16_f32) shapeCasts_S512x1024_S1x512x1024)
    shapeCasts_S1x512x1024_S512x1024 : FVec Ideal S512x1024 .bf16) bitsLt_bf16_f32) (ix2 t h) = _
  rw [addf_apply, extf_apply, shapeCast_shapeCast, truncf_apply]

/-- A partial sum: what the devices it has passed contributed to the rows it will return to. -/
theorem acc_apply (b : Bool) (s : ℕ) (c : Dev nD) (t : Fin 512) (h : Fin 1024) :
    acc pk wt b s c (ix2 t h) = ∑ k ∈ Finset.range (s + 1),
      contrib (meW ((bwd b)^[k] c)) (pk b (src b (s + 1) c)) (wt ((bwd b)^[k] c)) (ix2 t h) := by
  induction s generalizing c with
  | zero => simp [acc, con, xv]
  | succ s ih =>
    rw [Finset.sum_range_succ', add_comm (Finset.sum _ _)]
    show accum (con pk wt b (s + 2) c) (msg (acc pk wt b s (bwd b c))) (ix2 t h) = _
    rw [msg_accum, ih]
    rfl

/-- Sixteen steps lead back. -/
theorem src_round : ∀ (b : Bool) (c : Dev nD), src b 16 c = c := by decide

/-- The sixteen devices a partial sum passes are all of them. -/
theorem round_bij : ∀ (b : Bool) (c : Dev nD), Function.Injective fun k : Fin 16 => (bwd b)^[k.val] c := by decide

theorem acc_all (b : Bool) (c : Dev nD) (t : Fin 512) (h : Fin 1024) :
    acc pk wt b 15 c (ix2 t h) = ∑ d : Dev nD, contrib (meW d) (pk b c) (wt d) (ix2 t h) := by
  rw [acc_apply, src_round, Finset.sum_range]
  exact Fintype.sum_bijective (fun k : Fin 16 => (bwd b)^[k.val] c)
    ((Fintype.bijective_iff_injective_and_card _).2 ⟨round_bij b c, rfl⟩) _ _ fun _ => rfl

end RingSum

/-! ## A device's result -/

/-- A sum over all experts, device by device. -/
theorem sum_experts (f : Fin 64 → EReal) : ∑ e, f e = ∑ d : Dev nD, ∑ le : Fin 4, f (expertOf d le) := by
  rw [← Fintype.sum_prod_type (f := fun q : Dev nD × Fin 4 => f (expertOf q.1 q.2))]
  refine (Fintype.sum_bijective (fun q : Dev nD × Fin 4 => expertOf q.1 q.2) ((Fintype.bijective_iff_injective_and_card _).2 ⟨fun p q h => ?_, by simp [nD]⟩) _ _ fun _ => rfl).symm
  have := congrArg Fin.val h
  have e1 : p.1.val * 4 + p.2.val = q.1.val * 4 + q.2.val := this
  have := p.2.isLt; have := q.2.isLt
  exact Prod.ext (Fin.ext (by omega)) (Fin.ext (by omega))

theorem halves_apply (cR cL : FVec Ideal S512x1024 .f32) (b : Bool) (t : Fin 512) (h : Fin 1024) :
    halves cR cL (ix2 (rowOf b t) h) = (if b then cR else cL) (ix2 t h) := by
  have ht := t.isLt
  unfold halves
  have e : ∀ (q : Fin 512), q.val = t.val → at2 q h = ix2 t h := fun q hq => by
    obtain rfl : q = t := Fin.ext hq
    funext a
    match a with
    | ⟨0, _⟩ => rfl
    | ⟨1, _⟩ => rfl
  cases b
  · refine (dif_neg (show ¬ (512 + t.val < 512) by omega)).trans ?_
    exact congrArg cL (e _ (show 512 + t.val - 512 = t.val by omega))
  · refine (dif_pos (show 0 + t.val < 512 by omega)).trans ?_
    exact congrArg cR (e _ (show 0 + t.val = t.val by omega))

theorem rowOf_surj (t : Fin 1024) : ∃ b u, t = rowOf b u := by
  by_cases h : t.val < 512
  · exact ⟨true, ⟨t.val, h⟩, Fin.ext (show t.val = 0 + t.val by omega)⟩
  · exact ⟨false, ⟨t.val - 512, by omega⟩, Fin.ext (show t.val = 512 + (t.val - 512) by omega)⟩

theorem col0_apply (v : S1024x2.Idx → Elt Ideal .i32) (t : Fin 1024) : col0 v (ix2 t 0) = v (ix2 t 0) := by
  show v _ = v _
  refine congrArg v (funext fun a => Fin.ext ?_)
  match a with
  | ⟨0, _⟩ => show 0 + 1 * t.val = t.val; omega
  | ⟨1, _⟩ => rfl

theorem col1_apply (v : S1024x2.Idx → Elt Ideal .i32) (t : Fin 1024) : col1 v (ix2 t 0) = v (ix2 t 1) := by
  show v _ = v _
  refine congrArg v (funext fun a => Fin.ext ?_)
  match a with
  | ⟨0, _⟩ => show 0 + 1 * t.val = t.val; omega
  | ⟨1, _⟩ => rfl

section Result
variable (o : Dev nD → Ops Ideal)

/-- Column `h` of expert `e`'s weights, on the device that holds it. -/
def wtAt (h : Fin 1024) (e : Fin 64) (k : Fin 512) : EReal :=
  (o ⟨e.val / 4, by have := e.isLt; show e.val / 4 < 16; omega⟩).e (ix3 (⟨e.val % 4, by omega⟩ : Fin 4) k h)

theorem wtAt_expertOf (h : Fin 1024) (d : Dev nD) (le : Fin 4) (k : Fin 512) : wtAt o h (expertOf d le) k = (o d).e (ix3 le k h) := by
  have hl := le.isLt
  have h1 : (⟨(expertOf d le).val / 4, by have := (expertOf d le).isLt; show _ / 4 < 16; omega⟩ : Dev nD) = d :=
    Fin.ext (show (d.val * 4 + le.val) / 4 = d.val by omega)
  have h2 : (⟨(expertOf d le).val % 4, by omega⟩ : Fin 4) = le := Fin.ext (show (d.val * 4 + le.val) % 4 = le.val by omega)
  unfold wtAt
  rw [h1, h2]

/-- A device's result at one token and column. -/
theorem resOf_apply (c : Dev nD) (t : Fin 1024) (h : Fin 1024) (i j : Fin 64)
    (h0 : (o c).i (ix2 t 0) = BitVec.ofNat 32 i.val) (h1 : (o c).i (ix2 t 1) = BitVec.ofNat 32 j.val)
    (hx : ∀ k, ∃ v : ℝ, (o c).x (ix2 t k) = v) (hr : ∀ k e, ∃ v : ℝ, (o c).r (ix2 k e) = v) :
    resOf o c (ix2 t h) = mixed (tokScore (o c).x (o c).r t) i j fun e => ∑ k, (o c).x (ix2 t k) * wtAt o h e k := by
  have h0' : col0 (o c).i (ix2 t 0) = BitVec.ofNat 32 i.val := (col0_apply _ t).trans h0
  have h1' : col1 (o c).i (ix2 t 0) = BitVec.ofNat 32 j.val := (col1_apply _ t).trans h1
  have hs : ∀ e, ∃ v : ℝ, tokScore (o c).x (o c).r t e = v := score_real hx hr
  rw [← all_experts hs]
  obtain ⟨b, u, rfl⟩ := rowOf_surj t
  have hb : resOf o c (ix2 (rowOf b u) h) = acc (pkOf o) (wtOf o) b 15 c (ix2 u h) := by
    unfold resOf
    rw [halves_apply]
    cases b <;> rfl
  rw [hb, acc_all, sum_experts]
  refine Finset.sum_congr rfl fun d _ => ?_
  rw [contrib_apply]
  refine Finset.sum_congr rfl fun le _ => Finset.sum_congr rfl fun k _ => ?_
  rw [wtAt_expertOf]
  congr 1
  · congr 1
    · exact (pack5_apply _ _ _ _ b 0 u _).trans (packM_input _ _ _ _ _ _ _ rfl)
    · exact (pack5_apply _ _ _ _ b 0 u _).trans (packM_weight _ _ _ _ _ _ _ h0' h1' _ _ rfl)
  · exact pay7_apply _ le k h

end Result

end Cert.Moe
-- ==== Proof.RefValue.lean ====
/- What the reference computes, read at one element on the extended reals. -/
module

public import proofs.«01_k».proof.Proof.Alg
public import proofs.«01_k».proof.Proof.Gen.ReferenceIdeal.Run
public import Idealize.ShloMosaic.Lib.ValueIdx
public import Idealize.ShloMosaic.Lib.ValueLayout
public import Idealize.ShloMosaic.Lib.StackMember
public import Idealize.ShloMosaic.Lib.IdealHost
public import Idealize.ShloMosaic.Lib.Pipeline.Value

@[expose] public section

noncomputable section

namespace Cert.Moe.Ref

open Cert.ReferenceIdeal Cert.ReferenceIdeal.Gen
open Idealize.ShloMosaic Idealize.ShloMosaic.ValueIdx
open scoped BigOperators

/-! ## The reference's pieces -/

/-- The experts' scores of every token. -/
def scores (x : FVec Ideal S16384x512 .bf16) (r : FVec Ideal S512x64 .bf16) : FVec Ideal S16384x64 .f32 :=
  Host.dotGeneral dot_S16384x512_S512x64_S16384x64_1_0_0_1_n_n none (extf .f32 x bitsLt_bf16_f32) (extf .f32 r bitsLt_bf16_f32)

/-- A number for each token, repeated along the experts. -/
def along (v : FVec Ideal S16384 .f32) : FVec Ideal S16384x64 .f32 :=
  broadcastInDim S16384x64 ![0, 1] bcast_S16384x1_S16384x64_0_1 (broadcastInDim S16384x1 ![0] bcast_S16384_S16384x1_0 v)

/-- The exponentials of the scores, each token's largest score taken off. -/
def exps (s : FVec Ideal S16384x64 .f32) : FVec Ideal S16384x64 .f32 :=
  Host.exp (subf s (along (Host.reduce FloatOps.maximumf s (constant S_ .f32 0xFF800000#32) reducesTo_S16384x64_S16384_d1 h_S_)))

/-- The softmax of the scores. -/
def probs (s : FVec Ideal S16384x64 .f32) : FVec Ideal S16384x64 .f32 :=
  Host.divf (exps s) (along (Host.reduceAdd (exps s) (constant S_ .f32 0x00000000#32) reducesTo_S16384x64_S16384_d1 h_S_))

/-- The tokens' first chosen expert. -/
def first (a : IVec S16384x2 32) : IVec S16384 32 :=
  shapeCast _ (extractStridedSlice S16384x1 ![0, 0] a slices_S16384x2_S16384x1_0_0) shapeCasts_S16384x1_S16384

/-- The tokens' second chosen expert. -/
def second (a : IVec S16384x2 32) : IVec S16384 32 :=
  shapeCast _ (extractStridedSlice S16384x1 ![0, 1] a slices_S16384x2_S16384x1_0_1) shapeCasts_S16384x1_S16384

/-- A choice of expert as a column. -/
def column (v : IVec S16384 32) : IVec S16384x1 32 := broadcastInDim S16384x1 ![0] bcast_S16384_S16384x1_0 v

/-- The column with negative numbers counted from the end. -/
def wrapped (v : IVec S16384 32) : IVec S16384x1x1 32 :=
  shapeCast _ (select (cmpi .slt (column v) (broadcastInDim S16384x1 ![] bcast_S_S16384x1 (constantI S_ 32 0#32)))
    (addi (column v) (broadcastInDim S16384x1 ![] bcast_S_S16384x1 (constantI S_ 32 64#32))) (column v)) shapeCasts_S16384x1_S16384x1x1

/-- Whether the wrapped number names an expert. -/
def inside (v : IVec S16384 32) : IVec S16384x1 1 :=
  Host.reduce IntOp.andi (andi (cmpi .sge (wrapped v) (broadcastInDim S16384x1x1 ![] bcast_S_S16384x1x1 (constantI S_ 32 0#32)))
    (cmpi .sle (wrapped v) (broadcastInDim S16384x1x1 ![0, 1, 2] bcast_S1x1x1_S16384x1x1_0_1_2
      (broadcastInDim S1x1x1 ![2] bcast_S1_S1x1x1_2 (constantI S1 32 63#32))))) (constantI S_ 1 1#1) reducesTo_S16384x1x1_S16384x1_d2 h_S_

/-- The probability of the chosen expert. -/
def chosen (s : FVec Ideal S16384x64 .f32) (v : IVec S16384 32) : FVec Ideal S16384x1 .f32 :=
  select (inside v) (Host.gather gather_S16384x64_S16384x1x1_S16384x1_n_1_0_0_1_2_11 (probs s) (wrapped v))
    (broadcastInDim S16384x1 ![] bcast_S_S16384x1 (constant S_ .f32 0x7FC00000#32))

/-- The choice as a column of rows to take. -/
def rows (v : IVec S16384 32) : IVec S16384x1 32 :=
  column (select (cmpi .slt v (broadcastInDim S16384 ![] bcast_S_S16384 (constantI S_ 32 0#32)))
    (addi v (broadcastInDim S16384 ![] bcast_S_S16384 (constantI S_ 32 64#32))) v)

/-- Each token through its chosen expert. -/
def through (x : FVec Ideal S16384x512 .bf16) (w : FVec Ideal S64x512x1024 .bf16) (v : IVec S16384 32) : FVec Ideal S16384x1024 .f32 :=
  Host.dotGeneral dot_S16384x512_S16384x512x1024_S16384x1024_1_1_n_2_0_0 none (extf .f32 x bitsLt_bf16_f32)
    (Host.gather gather_S64x512x1024_S16384x1_S16384x512x1024_12_0_n_n_0_1_15121024 (extf .f32 w bitsLt_bf16_f32) (rows v))

/-- One choice's part of the result. -/
def term (x : FVec Ideal S16384x512 .bf16) (r : FVec Ideal S512x64 .bf16) (a : IVec S16384x2 32) (w : FVec Ideal S64x512x1024 .bf16)
    (v : IVec S16384 32) : FVec Ideal S16384x1024 .f32 :=
  mulf (broadcastInDim S16384x1024 ![0, 1] bcast_S16384x1_S16384x1024_0_1
    (Host.divf (chosen (scores x r) v) (addf (chosen (scores x r) (first a)) (chosen (scores x r) (second a))))) (through x w v)

theorem res_eq (m : (ℓ : Loc nD τ sig) → Buf (Elt Ideal) ℓ) (c : Dev nD) :
    Cert.ReferenceIdeal.Value.res_main_v44 (F := Ideal) m c
      = addf (term (m ((c.tc : Thread nD τ).loc main_arg0)) (m ((c.tc : Thread nD τ).loc main_arg1)) (m ((c.tc : Thread nD τ).loc main_arg2))
          (m ((c.tc : Thread nD τ).loc main_arg3)) (first (m ((c.tc : Thread nD τ).loc main_arg2))))
        (term (m ((c.tc : Thread nD τ).loc main_arg0)) (m ((c.tc : Thread nD τ).loc main_arg1)) (m ((c.tc : Thread nD τ).loc main_arg2))
          (m ((c.tc : Thread nD τ).loc main_arg3)) (second (m ((c.tc : Thread nD τ).loc main_arg2)))) := rfl

/-! ## Scores and probabilities -/

theorem add_at {s : Shape} (a b : FVec Ideal s .f32) (i : s.Idx) : addf a b i = (a i + b i : EReal) := rfl
theorem mul_at {s : Shape} (a b : FVec Ideal s .f32) (i : s.Idx) : mulf a b i = (a i * b i : EReal) := rfl
theorem div_at {s : Shape} (a b : FVec Ideal s .f32) (i : s.Idx) : Host.divf a b i = Ideal.div (a i) (b i) := rfl
theorem select_at {s : Shape} {α : Type} (c : IVec s 1) (a b : s.Idx → α) (i : s.Idx) (h : c i = 1#1) : select c a b i = a i := if_pos h

section Scores
variable (x : FVec Ideal S16384x512 .bf16) (r : FVec Ideal S512x64 .bf16)

theorem scores_apply (t : Fin 16384) (e : Fin 64) :
    scores x r (ix2 t e) = score (fun k => x (ix2 t k)) (fun k e => r (ix2 k e)) e :=
  StackMember.dotGeneral_plain_apply none (extf .f32 x bitsLt_bf16_f32) (extf .f32 r bitsLt_bf16_f32) t e

theorem along_apply (v : FVec Ideal S16384 .f32) (t : Fin 16384) (e : Fin 64) : along v (ix2 t e) = v (ix1 t) := by
  refine (broadcastInDim_apply _ _ _ _ (ix2 t (0 : Fin 1)) fun a => ?_).trans (broadcastInDim_apply _ _ _ _ (ix1 t) fun a => ?_)
  · match a with
    | ⟨0, _⟩ => rfl
    | ⟨1, _⟩ => rfl
  · match a with
    | ⟨0, _⟩ => rfl

theorem lift_row (h : S16384x64.Reduces [1] S16384) (t : Fin 16384) (e : Fin 64) : h.lift (ix1 t) e = ix2 t e := by
  funext a
  match a with
  | ⟨0, _⟩ => rfl
  | ⟨1, _⟩ => rfl

theorem reduces_rows : S16384x64.Reduces [1] S16384 :=
  ⟨reducesTo_S16384x64_S16384_d1.1, Nat.one_pos, reducesTo_S16384x64_S16384_d1.2⟩

variable (s : FVec Ideal S16384x64 .f32) (t : Fin 16384)

theorem max_apply : Host.reduce FloatOps.maximumf s (constant S_ .f32 0xFF800000#32) reducesTo_S16384x64_S16384_d1 h_S_ (ix1 t)
    = top fun e => s (ix2 t e) := by
  refine (Host.reduce_eq_fold_single FloatOps.maximumf s _ reducesTo_S16384x64_S16384_d1 reduces_rows h_S_ (ix1 t)).trans ?_
  have hf : s ∘ reduces_rows.lift (ix1 t) = fun e => s (ix2 t e) := funext fun e => congrArg s (lift_row reduces_rows t e)
  rw [hf]
  have h0 : (constant S_ .f32 0xFF800000#32 : FVec Ideal S_ .f32) (Shape.Idx.first h_S_) = (⊥ : EReal) := by
    show Ideal.ofBits .f32 0xFF800000#32 = ⊥
    simp [Ideal.ofBits, Ideal.ieee]
  rw [h0]
  rfl

theorem exps_apply (e : Fin 64) : exps s (ix2 t e) = Ideal.exp (s (ix2 t e) - top fun e => s (ix2 t e)) := by
  have h := (along_apply _ t e).trans (max_apply s t)
  exact congrArg (fun z : EReal => Ideal.exp (s (ix2 t e) - z)) h

theorem probs_apply (e : Fin 64) : probs s (ix2 t e) = prob (fun e => s (ix2 t e)) e := by
  have h : Host.reduceAdd (exps s) (constant S_ .f32 0x00000000#32) reducesTo_S16384x64_S16384_d1 h_S_ (ix1 t)
      = ∑ e, Ideal.exp (s (ix2 t e) - top fun e => s (ix2 t e)) := by
    rw [hostReduceAdd_apply, Ideal.hostReduceAdd_single _ reduces_rows]
    rw [constant_apply, Ideal.ofBits_zero_f32, zero_add]
    exact Finset.sum_congr rfl fun e _ => (congrArg (exps s) (lift_row reduces_rows t e)).trans (exps_apply s t e)
  unfold probs
  rw [div_at, along_apply, h, exps_apply]
  rfl

end Scores

/-! ## The chosen experts -/

section Chosen

theorem not_neg : ∀ i : Fin 64, IntOp.cmpi .slt (BitVec.ofNat 32 i.val) 0#32 = 0#1 := by decide
theorem is_expert : ∀ i : Fin 64, IntOp.andi 1#1 (IntOp.andi (IntOp.cmpi .sge (BitVec.ofNat 32 i.val) 0#32) (IntOp.cmpi .sle (BitVec.ofNat 32 i.val) 63#32)) = 1#1 := by
  decide
theorem place : ∀ i : Fin 64, min (BitVec.ofNat 32 i.val).toInt.toNat 63 = i.val := by decide

theorem first_apply (a : IVec S16384x2 32) (t : Fin 16384) : first a (ix1 t) = a (ix2 t 0) := by
  refine (shapeCast_apply _ _ _ (ix2 t (0 : Fin 1)) ?_).trans (extractStridedSlice_apply _ _ _ _ (ix2 t (0 : Fin 2)) fun a => ?_)
  · rw [Shape.rowMajor_val_two, Shape.rowMajor_val_one]
    show t.val * 1 + 0 = t.val
    omega
  · match a with
    | ⟨0, _⟩ => exact (Nat.zero_add _).symm
    | ⟨1, _⟩ => rfl

theorem second_apply (a : IVec S16384x2 32) (t : Fin 16384) : second a (ix1 t) = a (ix2 t 1) := by
  refine (shapeCast_apply _ _ _ (ix2 t (0 : Fin 1)) ?_).trans (extractStridedSlice_apply _ _ _ _ (ix2 t (1 : Fin 2)) fun a => ?_)
  · rw [Shape.rowMajor_val_two, Shape.rowMajor_val_one]
    show t.val * 1 + 0 = t.val
    omega
  · match a with
    | ⟨0, _⟩ => exact (Nat.zero_add _).symm
    | ⟨1, _⟩ => rfl

theorem column_apply (v : IVec S16384 32) (t : Fin 16384) (z : Fin 1) : column v (ix2 t z) = v (ix1 t) :=
  broadcastInDim_apply _ _ _ _ (ix1 t) fun a => match a with
    | ⟨0, _⟩ => rfl

variable (v : IVec S16384 32) (t : Fin 16384) (i : Fin 64) (hv : v (ix1 t) = BitVec.ofNat 32 i.val)
include hv

theorem rows_apply (z : Fin 1) : rows v (ix2 t z) = BitVec.ofNat 32 i.val := by
  refine (column_apply _ t z).trans ?_
  show (if IntOp.cmpi .slt (v (ix1 t)) 0#32 = 1#1 then _ else v (ix1 t)) = _
  rw [hv, not_neg i]
  rfl

theorem wrapped_apply (y z : Fin 1) : wrapped v (ix3 t y z) = BitVec.ofNat 32 i.val := by
  refine (shapeCast_apply _ _ _ (ix2 t (0 : Fin 1)) ?_).trans ?_
  · rw [Shape.rowMajor_val_two, Shape.rowMajor_val_three]
    show t.val * 1 + 0 = (t.val * 1 + y.val) * 1 + z.val
    omega
  · show (if IntOp.cmpi .slt (column v (ix2 t 0)) 0#32 = 1#1 then _ else column v (ix2 t 0)) = _
    rw [column_apply, hv, not_neg i]
    rfl

theorem inside_apply (z : Fin 1) : inside v (ix2 t z) = 1#1 := by
  have hr : S16384x1x1.Reduces [2] S16384x1 := ⟨reducesTo_S16384x1x1_S16384x1_d2.1, Nat.two_pos, reducesTo_S16384x1x1_S16384x1_d2.2⟩
  refine (Host.reduce_eq_fold_single IntOp.andi _ _ reducesTo_S16384x1x1_S16384x1_d2 hr h_S_ (ix2 t z)).trans ?_
  have hl : ∀ k : Fin 1, hr.lift (ix2 t z) k = ix3 t z k := fun k => by
    funext a
    match a with
    | ⟨0, _⟩ => rfl
    | ⟨1, _⟩ => rfl
    | ⟨2, _⟩ => rfl
  refine (Finset.fold_singleton (op := IntOp.andi) (b := 1#1) (f := fun k : Fin 1 => IntOp.andi
    (IntOp.cmpi .sge (wrapped v (hr.lift (ix2 t z) k)) 0#32) (IntOp.cmpi .sle (wrapped v (hr.lift (ix2 t z) k)) 63#32)) (a := 0)).trans ?_
  show IntOp.andi (IntOp.andi (IntOp.cmpi .sge (wrapped v (hr.lift (ix2 t z) (0 : Fin 1))) 0#32)
    (IntOp.cmpi .sle (wrapped v (hr.lift (ix2 t z) (0 : Fin 1))) 63#32)) 1#1 = 1#1
  rw [hl, wrapped_apply v t i hv, Std.Commutative.comm (op := IntOp.andi)]
  exact is_expert i

theorem take_prob (p : FVec Ideal S16384x64 .f32) (z : Fin 1) :
    Host.gather gather_S16384x64_S16384x1x1_S16384x1_n_1_0_0_1_2_11 p (wrapped v) (ix2 t z) = p (ix2 t i) := by
  unfold Host.gather
  refine congrArg p ?_
  funext a
  refine Fin.ext ?_
  show GatherDims.start _ (ix2 t z) (wrapped v) a + GatherDims.batchCoord _ (ix2 t z) a + GatherDims.offCoord _ (ix2 t z) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S16384x64_S16384x1x1_S16384x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x64_S16384x1x1_S16384x1_n_1_0_0_1_2_11.startIndexMap from List.mem_singleton.mpr rfl)]
    have hsi : gather_S16384x64_S16384x1x1_S16384x1_n_1_0_0_1_2_11.siIdx (ix2 t z)
        ⟨List.idxOf (1 : Fin 2) gather_S16384x64_S16384x1x1_S16384x1_n_1_0_0_1_2_11.startIndexMap,
          List.idxOf_lt_length_iff.2 (List.mem_singleton.mpr rfl)⟩ = ix3 t z 0 := by
      funext b; refine Fin.ext ?_
      match b with
      | ⟨0, _⟩ => rfl
      | ⟨1, _⟩ => rfl
      | ⟨2, _⟩ => rfl
    rw [hsi, wrapped_apply v t i hv]
    exact place i

theorem take_expert (w : FVec Ideal S64x512x1024 .f32) (k : Fin 512) (h : Fin 1024) :
    Host.gather gather_S64x512x1024_S16384x1_S16384x512x1024_12_0_n_n_0_1_15121024 w (rows v) (ix3 t k h) = w (ix3 i k h) := by
  unfold Host.gather
  refine congrArg w ?_
  funext a
  refine Fin.ext ?_
  show GatherDims.start _ (ix3 t k h) (rows v) a + GatherDims.batchCoord _ (ix3 t k h) a + GatherDims.offCoord _ (ix3 t k h) a = _
  rw [GatherDims.batchCoord_eq_zero _ _ _ (fun h => absurd h List.not_mem_nil)]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S64x512x1024_S16384x1_S16384x512x1024_12_0_n_n_0_1_15121024.startIndexMap from List.mem_singleton.mpr rfl)]
    have hsi : gather_S64x512x1024_S16384x1_S16384x512x1024_12_0_n_n_0_1_15121024.siIdx (ix3 t k h)
        ⟨List.idxOf (0 : Fin 3) gather_S64x512x1024_S16384x1_S16384x512x1024_12_0_n_n_0_1_15121024.startIndexMap,
          List.idxOf_lt_length_iff.2 (List.mem_singleton.mpr rfl)⟩ = ix2 t 0 := by
      funext b; refine Fin.ext ?_
      match b with
      | ⟨0, _⟩ => rfl
      | ⟨1, _⟩ => rfl
    rw [hsi, rows_apply v t i hv]
    exact place i
  · unfold GatherDims.start
    rw [dif_neg (show (1 : Fin 3) ∉ gather_S64x512x1024_S16384x1_S16384x512x1024_12_0_n_n_0_1_15121024.startIndexMap from fun h => absurd (List.mem_singleton.mp h) (by decide))]
    exact (Nat.zero_add _).trans rfl
  · unfold GatherDims.start
    rw [dif_neg (show (2 : Fin 3) ∉ gather_S64x512x1024_S16384x1_S16384x512x1024_12_0_n_n_0_1_15121024.startIndexMap from fun h => absurd (List.mem_singleton.mp h) (by decide))]
    exact (Nat.zero_add _).trans rfl

theorem chosen_apply (s : FVec Ideal S16384x64 .f32) (z : Fin 1) : chosen s v (ix2 t z) = prob (fun e => s (ix2 t e)) i := by
  unfold chosen
  rw [select_at _ _ _ _ (inside_apply v t i hv z), take_prob v t i hv, probs_apply]

theorem dot_rows (prec : Option ContractPrecision) (A : FVec Ideal S16384x512 .f32) (B : FVec Ideal S16384x512x1024 .f32) (h : Fin 1024) :
    Host.dotGeneral (φ₁ := .f32) (φ₂ := .f32) dot_S16384x512_S16384x512x1024_S16384x1024_1_1_n_2_0_0 prec A B (ix2 t h) = ∑ k : Fin 512, A (ix2 t k) * B (ix3 t k h) := by
  show FloatOps.dotGeneral _ prec _ A B (ix2 t h) = _
  rw [Ideal.dotGeneral_apply, ← Equiv.sum_comp (contrEquiv1 dot_S16384x512_S16384x512x1024_S16384x1024_1_1_n_2_0_0 512 rfl rfl).symm]
  refine Finset.sum_congr rfl fun k _ => ?_
  have ck := contrEquiv1_symm_val dot_S16384x512_S16384x512x1024_S16384x1024_1_1_n_2_0_0 512 rfl rfl k
  refine congrArg₂ (· * ·) (congrArg A ?_) (congrArg B ?_)
  · funext ax; apply Fin.ext
    match ax with
    | ⟨0, _⟩ => rfl
    | ⟨1, _⟩ => exact ck
  · funext ax; apply Fin.ext
    match ax with
    | ⟨0, _⟩ => rfl
    | ⟨1, _⟩ => exact ck
    | ⟨2, _⟩ => rfl

theorem through_apply (x : FVec Ideal S16384x512 .bf16) (w : FVec Ideal S64x512x1024 .bf16) (h : Fin 1024) :
    through x w v (ix2 t h) = ∑ k : Fin 512, x (ix2 t k) * w (ix3 i k h) := by
  refine (dot_rows v t i hv none _ _ h).trans (Finset.sum_congr rfl fun k _ => ?_)
  exact congrArg (fun z : EReal => x (ix2 t k) * z) (take_expert v t i hv (extf .f32 w bitsLt_bf16_f32) k h)

end Chosen

theorem spread_at (u : FVec Ideal S16384x1 .f32) (t : Fin 16384) (h : Fin 1024) :
    broadcastInDim S16384x1024 ![0, 1] bcast_S16384x1_S16384x1024_0_1 u (ix2 t h) = u (ix2 t 0) :=
  broadcastInDim_apply _ _ _ _ (ix2 t (0 : Fin 1)) fun a => match a with
    | ⟨0, _⟩ => rfl
    | ⟨1, _⟩ => rfl

/-- The reference's result for token `t` at place `h`, whose chosen experts are `i` and `j`. -/
theorem res_apply (m : (ℓ : Loc nD τ sig) → Buf (Elt Ideal) ℓ) (c : Dev nD)
    (x : FVec Ideal S16384x512 .bf16) (r : FVec Ideal S512x64 .bf16) (a : IVec S16384x2 32) (w : FVec Ideal S64x512x1024 .bf16)
    (hx : m ((c.tc : Thread nD τ).loc main_arg0) = x) (hr : m ((c.tc : Thread nD τ).loc main_arg1) = r)
    (ha : m ((c.tc : Thread nD τ).loc main_arg2) = a) (hw : m ((c.tc : Thread nD τ).loc main_arg3) = w)
    (t : Fin 16384) (h : Fin 1024) (i j : Fin 64) (h0 : a (ix2 t 0) = BitVec.ofNat 32 i.val) (h1 : a (ix2 t 1) = BitVec.ofNat 32 j.val) :
    Cert.ReferenceIdeal.Value.res_main_v44 (F := Ideal) m c (ix2 t h)
      = mixed (score (fun k => x (ix2 t k)) (fun k e => r (ix2 k e))) i j fun e => ∑ k : Fin 512, x (ix2 t k) * w (ix3 e k h) := by
  have hs : (fun e => scores x r (ix2 t e)) = score (fun k => x (ix2 t k)) (fun k e => r (ix2 k e)) := funext fun e => scores_apply x r t e
  have c0 := chosen_apply (first a) t i ((first_apply a t).trans h0) (scores x r) 0
  have c1 := chosen_apply (second a) t j ((second_apply a t).trans h1) (scores x r) 0
  rw [hs] at c0 c1
  have hterm : ∀ (v : IVec S16384 32) (p : Fin 64) (hv : v (ix1 t) = BitVec.ofNat 32 p.val),
      term x r a w v (ix2 t h) = share (score (fun k => x (ix2 t k)) (fun k e => r (ix2 k e))) p i j * ∑ k : Fin 512, x (ix2 t k) * w (ix3 p k h) := by
    intro v p hv
    have cp := chosen_apply v t p hv (scores x r) 0
    rw [hs] at cp
    unfold term
    rw [mul_at, through_apply v t p hv x w h, spread_at, div_at, add_at, cp, c0, c1]
    rfl
  rw [res_eq, hx, hr, ha, hw, add_at, hterm _ i ((first_apply a t).trans h0), hterm _ j ((second_apply a t).trans h1)]
  rfl

end Cert.Moe.Ref

end
-- ==== Proof.Value.lean ====
/- The kernel's result is the reference's, block by block, on the extended reals. -/
module

public import proofs.«01_k».proof.Proof.Frames
public import proofs.«01_k».proof.Proof.KernelValue
public import proofs.«01_k».proof.Proof.RefValue

@[expose] public section

noncomputable section

namespace Cert.Moe

open Cert.KernelIdeal Cert.KernelIdeal.Gen
open Idealize.ShloMosaic Idealize.ShloMosaic.ValueIdx
open Idealize.ShloMosaic.TcCoe
open Idealize.SL.Sem
open scoped BigOperators

/-! ## The operands and the result, read off the whole arrays -/

section Windows
variable {F : FTy → Type} [FloatOps F]
variable (m : (ℓ : Loc nD τ sig) → Buf (Elt F) ℓ) (ρ : Dev nD → PrngReg) (c : Dev nD)

theorem opsOf_x : (opsOf m ρ c).x = m ((c.tc : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem opsOf_r : (opsOf m ρ c).r = m ((c.tc : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem opsOf_i : (opsOf m ρ c).i = m ((c.tc : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

theorem opsOf_e : (opsOf m ρ c).e = m ((c.tc : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _

theorem finalA_res : finalA m ρ c (4 : Fin 5) = resOf (opsOf m ρ) c := by
  have hz : (fun a => (win0_4.index (0 : Fin 1)) a * main_v1.ty.shape.size a) = fun _ => 0 := funext fun a => by fin_cases a <;> decide
  have h : (win0_4.blk (0 : Fin 1)).view.read (Elt F) (finalA m ρ c (4 : Fin 5)) = resOf (opsOf m ρ) c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt F) main_v1 hz (fun a => by fin_cases a <;> decide) _).symm.trans h

end Windows

/-! ## The precondition -/

theorem pre_facts : Cert.Pre_routed_KernelIdeal.Facts := ⟨by decide, by decide, by decide, by decide⟩
theorem pre_facts_ref : Cert.Pre_routed_ReferenceIdeal.Facts := ⟨by decide, by decide, by decide, by decide⟩

theorem inf_word : (FloatOps.ofBits .f32 0x7F800000#32 : Ideal .f32) = (⊤ : EReal) := by
  show Ideal.ofBits .f32 0x7F800000#32 = ⊤
  simp [Ideal.ofBits, Ideal.ieee]

/-- A number whose magnitude is below infinity is real. -/
theorem real_of_finite {x : EReal} (h : Ideal.cmp .olt (max x (-x)) ⊤ = 1#1) : ∃ v : ℝ, x = v := by
  have hlt : max x (-x) < ⊤ := by
    by_contra hn
    simp [Ideal.cmp, hn] at h
  have h1 : x ≠ ⊤ := fun hx => by rw [hx] at hlt; simp at hlt
  have h2 : x ≠ ⊥ := fun hx => by rw [hx] at hlt; simp at hlt
  exact ⟨x.toReal, (EReal.coe_toReal h1 h2).symm⟩

/-- A word that is at least 0 and below 64 is an expert's number. -/
theorem expert_of_range {a : BitVec 32} (h : IntOp.andi (IntOp.cmpi .sge a 0#32) (IntOp.cmpi .slt a 64#32) = 1#1) :
    ∃ i : Fin 64, a = BitVec.ofNat 32 i.val := by
  have h' : (0#32).sle a = true ∧ a.slt 64#32 = true := by
    unfold IntOp.andi IntOp.cmpi at h
    cases h1 : (0#32).sle a <;> cases h2 : a.slt 64#32 <;> simp [h1, h2] at h ⊢
  have hlo : 0 ≤ a.toInt := by simpa [BitVec.sle] using h'.1
  have hhi : a.toInt < 64 := by simpa [BitVec.slt] using h'.2
  have hn : a.toInt = (a.toNat : ℤ) := by
    rw [BitVec.toInt_eq_toNat_cond] at hlo ⊢
    split_ifs at hlo ⊢ with hc
    · rfl
    · have := a.isLt; omega
  refine ⟨⟨a.toNat, by omega⟩, ?_⟩
  show a = BitVec.ofNat 32 a.toNat
  simp

attribute [local instance] Cert.Kernel.Gen.facts Cert.KernelIdeal.Gen.facts Cert.ReferenceIdeal.Gen.facts pre_facts pre_facts_ref

section Pre
variable (m : (ℓ : Loc nD τ sig) → Buf (Elt Ideal) ℓ) (hp : Cert.Pre_KernelIdeal_routed_KernelIdeal m) (c : Dev nD)
include hp

theorem x_real (t : Fin 1024) (k : Fin 512) : ∃ v : ℝ, (m ((c.tc : Thread nD τ).loc main_arg0) : FVec Ideal S1024x512 .bf16) (ix2 t k) = (v : EReal) := by
  have h := congrFun (hp c).1 (ix2 t k)
  refine real_of_finite ?_
  rw [← inf_word]
  exact h

theorem r_real (k : Fin 512) (e : Fin 64) : ∃ v : ℝ, (m ((c.tc : Thread nD τ).loc main_arg1) : FVec Ideal S512x64 .bf16) (ix2 k e) = (v : EReal) := by
  have h := congrFun (hp c).2.1 (ix2 k e)
  refine real_of_finite ?_
  rw [← inf_word]
  exact h

theorem i_expert (t : Fin 1024) (z : Fin 2) : ∃ i : Fin 64, (m ((c.tc : Thread nD τ).loc main_arg2) : IVec S1024x2 32) (ix2 t z) = BitVec.ofNat 32 i.val :=
  expert_of_range (congrFun (hp c).2.2 (ix2 t z))

end Pre

/-! ## Blocks of the whole arrays -/

section Blocks
variable {α : Type}

/-- Row `t` of device `c`'s block, as a row of the whole. -/
def wide (c : Dev nD) (t : Fin 1024) : Fin 16384 := ⟨c.val * 1024 + t.val, by have h : c.val < 16 := c.isLt; have := t.isLt; omega⟩

theorem block_rows {n : ℕ} (h : Layout.Tiles ⟨2, ![1024, n]⟩ ⟨2, ![16384, n]⟩ 0 16) (c : Dev nD) (v : (⟨2, ![16384, n]⟩ : Shape).Idx → α)
    (t : Fin 1024) (k : Fin n) : Layout.block ⟨2, ![1024, n]⟩ ⟨2, ![16384, n]⟩ 0 16 c v h (ix2 t k) = v (ix2 (wide c t) k) := by
  refine congrArg v (funext fun a => Fin.ext ?_)
  match a with
  | ⟨0, _⟩ => rfl
  | ⟨1, _⟩ => rfl

theorem block_experts (h : Layout.Tiles ⟨3, ![4, 512, 1024]⟩ ⟨3, ![64, 512, 1024]⟩ 0 16) (c : Dev nD) (v : (⟨3, ![64, 512, 1024]⟩ : Shape).Idx → α)
    (e : Fin 64) (le : Fin 4) (he : c.val * 4 + le.val = e.val) (k : Fin 512) (j : Fin 1024) :
    Layout.block ⟨3, ![4, 512, 1024]⟩ ⟨3, ![64, 512, 1024]⟩ 0 16 c v h (ix3 le k j) = v (ix3 e k j) := by
  refine congrArg v (funext fun a => Fin.ext ?_)
  match a with
  | ⟨0, _⟩ => exact he
  | ⟨1, _⟩ => rfl
  | ⟨2, _⟩ => rfl

end Blocks

/-! ## The claim -/

theorem value_block (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hp : Cert.Pre_KernelIdeal_routed_KernelIdeal m)
    (x : FVec Ideal ⟨2, ![16384, 512]⟩ .bf16) (r : FVec Ideal ⟨2, ![512, 64]⟩ .bf16) (a : IVec ⟨2, ![16384, 2]⟩ 32) (w : FVec Ideal ⟨3, ![64, 512, 1024]⟩ .bf16)
    (hx' : m' (((0 : Dev Cert.ReferenceIdeal.nD).tc : Thread Cert.ReferenceIdeal.nD Cert.ReferenceIdeal.τ).loc Cert.ReferenceIdeal.main_arg0) = x)
    (hr' : m' (((0 : Dev Cert.ReferenceIdeal.nD).tc : Thread Cert.ReferenceIdeal.nD Cert.ReferenceIdeal.τ).loc Cert.ReferenceIdeal.main_arg1) = r)
    (ha' : m' (((0 : Dev Cert.ReferenceIdeal.nD).tc : Thread Cert.ReferenceIdeal.nD Cert.ReferenceIdeal.τ).loc Cert.ReferenceIdeal.main_arg2) = a)
    (hw' : m' (((0 : Dev Cert.ReferenceIdeal.nD).tc : Thread Cert.ReferenceIdeal.nD Cert.ReferenceIdeal.τ).loc Cert.ReferenceIdeal.main_arg3) = w)
    (hx : ∀ c : Dev nD, m ((c.tc : Thread nD τ).loc main_arg0) = Layout.block ⟨2, ![1024, 512]⟩ ⟨2, ![16384, 512]⟩ 0 16 c x)
    (hr : ∀ c : Dev nD, m ((c.tc : Thread nD τ).loc main_arg1) = r)
    (ha : ∀ c : Dev nD, m ((c.tc : Thread nD τ).loc main_arg2) = Layout.block ⟨2, ![1024, 2]⟩ ⟨2, ![16384, 2]⟩ 0 16 c a)
    (hw : ∀ c : Dev nD, m ((c.tc : Thread nD τ).loc main_arg3) = Layout.block ⟨3, ![4, 512, 1024]⟩ ⟨3, ![64, 512, 1024]⟩ 0 16 c w)
    (c : Dev nD) :
    resOf (opsOf m ρ) c = Layout.block ⟨2, ![1024, 1024]⟩ ⟨2, ![16384, 1024]⟩ 0 16 c (Cert.ReferenceIdeal.Value.res_main_v44 (F := Ideal) m' 0) := by
  funext y
  obtain ⟨t, h, rfl⟩ : ∃ (t : Fin 1024) (h : Fin 1024), y = ix2 t h := ⟨y 0, y 1, funext fun b => match b with
    | ⟨0, _⟩ => rfl
    | ⟨1, _⟩ => rfl⟩
  obtain ⟨i, hi⟩ := i_expert m hp c t 0
  obtain ⟨j, hj⟩ := i_expert m hp c t 1
  have ex : ∀ k, (opsOf m ρ c).x (ix2 t k) = x (ix2 (wide c t) k) := fun k => by rw [opsOf_x, hx c]; exact block_rows _ c x t k
  have er : ∀ k e, (opsOf m ρ c).r (ix2 k e) = r (ix2 k e) := fun k e => by rw [opsOf_r, hr c]
  have ew : ∀ e k, wtAt (opsOf m ρ) h e k = w (ix3 e k h) := fun e k => by
    unfold wtAt
    rw [opsOf_e, hw]
    refine block_experts _ _ w e _ ?_ k h
    show e.val / 4 * 4 + e.val % 4 = e.val
    omega
  have ei : ∀ z, (opsOf m ρ c).i (ix2 t z) = a (ix2 (wide c t) z) := fun z => by rw [opsOf_i, ha c]; exact block_rows _ c a t z
  have k0 : (opsOf m ρ c).i (ix2 t 0) = BitVec.ofNat 32 i.val := by rw [opsOf_i]; exact hi
  have k1 : (opsOf m ρ c).i (ix2 t 1) = BitVec.ofNat 32 j.val := by rw [opsOf_i]; exact hj
  have hK := resOf_apply (opsOf m ρ) c t h i j k0 k1 (fun k => by rw [opsOf_x]; exact x_real m hp c t k) (fun k e => by rw [opsOf_r]; exact r_real m hp c k e)
  have hR := Ref.res_apply m' 0 x r a w hx' hr' ha' hw' (wide c t) h i j ((ei 0).symm.trans k0) ((ei 1).symm.trans k1)
  refine hK.trans (Eq.trans ?_ ((block_rows _ c _ t h).trans hR).symm)
  unfold tokScore
  simp only [ex, er, ew]

theorem algebraic : Cert.algebraic_KernelIdeal_ReferenceIdeal_pre_routed_KernelIdeal := by
  intro m ρ m' ρ' hp hag
  refine ⟨Cert.ReferenceIdeal.Value.res_main_v44 (F := Ideal) m' 0, ?_, ?_⟩
  · refine (θ_run defs _ _).mono (fun r h c => ⟨?_, arg_kept m ρ h.1 c⟩) (run_main (F := Ideal) m ρ)
    exact ((h.1 c (4 : Fin 5)).trans (finalA_res m ρ c)).trans (value_block m ρ m' hp _ _ _ _ rfl rfl rfl rfl
      (fun c => (hag c).1) (fun c => (hag c).2.1) (fun c => (hag c).2.2.1) (fun c => (hag c).2.2.2) c)
  · exact (θ_run Cert.ReferenceIdeal.defs _ _).mono (fun _ h => h 0) (Cert.ReferenceIdeal.Value.run (F := Ideal) m' ρ')

theorem frame_ideal_pre : Cert.quiescent_KernelIdeal_pre_routed_KernelIdeal := fun m ρ _ => frame_any (F := Ideal) m ρ

theorem frame_reference_pre : Cert.quiescent_ReferenceIdeal_pre_routed_ReferenceIdeal := fun m ρ _ => frame_reference m ρ trivial

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.pre_facts, Cert.Moe.pre_facts_ref,
  Cert.Moe.frame_kernel, Cert.Moe.frame_ideal, Cert.Moe.frame_ideal_pre, Cert.Moe.frame_reference, Cert.Moe.frame_reference_pre,
  trivial, Cert.Moe.algebraic⟩

end Cert.Proof

end
